-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v336)) (v1 : (c : Dev Cert.KernelIdeal.nD) → Buf (Elt Ideal) ((c.tc : Thread Cert.KernelIdeal.nD Cert.KernelIdeal.τ).loc Cert.KernelIdeal.main_v334)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v336) = v0 c
          ∧ r.2.mem ((c.tc : Thread Cert.KernelIdeal.nD Cert.KernelIdeal.τ).loc Cert.KernelIdeal.main_v334) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v355) = v0 c
          ∧ r.2.mem ((c.tc : Thread Cert.ReferenceIdeal.nD Cert.ReferenceIdeal.τ).loc Cert.ReferenceIdeal.main_v353) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x512 : Shape := ⟨3, ![16, 256, 512]⟩
abbrev S16 : Shape := ⟨1, ![16]⟩
abbrev S8192x256 : Shape := ⟨2, ![8192, 256]⟩
abbrev S_ : Shape := ⟨0, ![]⟩
abbrev S512 : Shape := ⟨1, ![512]⟩
abbrev S1x512 : Shape := ⟨2, ![1, 512]⟩
abbrev S16x1 : Shape := ⟨2, ![16, 1]⟩
abbrev S16x512 : Shape := ⟨2, ![16, 512]⟩
abbrev S8192 : Shape := ⟨1, ![8192]⟩
abbrev S16x1x512 : Shape := ⟨3, ![16, 1, 512]⟩
abbrev S16x512x256 : Shape := ⟨3, ![16, 512, 256]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩
abbrev S1 : Shape := ⟨1, ![1]⟩
abbrev S1x1 : Shape := ⟨2, ![1, 1]⟩
abbrev S512x1 : Shape := ⟨2, ![512, 1]⟩
abbrev S1x1x512 : Shape := ⟨3, ![1, 1, 512]⟩
abbrev S16x256x256x2 : Shape := ⟨4, ![16, 256, 256, 2]⟩
abbrev S16x256x256 : Shape := ⟨3, ![16, 256, 256]⟩
abbrev S256 : Shape := ⟨1, ![256]⟩
abbrev S1x256 : Shape := ⟨2, ![1, 256]⟩
abbrev S16x256 : Shape := ⟨2, ![16, 256]⟩
abbrev S4096x256 : Shape := ⟨2, ![4096, 256]⟩
abbrev S4096 : Shape := ⟨1, ![4096]⟩
abbrev S4096x1 : Shape := ⟨2, ![4096, 1]⟩
abbrev S4096x8192 : Shape := ⟨2, ![4096, 8192]⟩
abbrev S16x256x128x4 : Shape := ⟨4, ![16, 256, 128, 4]⟩
abbrev S16x256x128 : Shape := ⟨3, ![16, 256, 128]⟩
abbrev S128 : Shape := ⟨1, ![128]⟩
abbrev S1x128 : Shape := ⟨2, ![1, 128]⟩
abbrev S16x128 : Shape := ⟨2, ![16, 128]⟩
abbrev S16x128x256 : Shape := ⟨3, ![16, 128, 256]⟩
abbrev S2048x256 : Shape := ⟨2, ![2048, 256]⟩
abbrev S2048 : Shape := ⟨1, ![2048]⟩
abbrev S2048x1 : Shape := ⟨2, ![2048, 1]⟩
abbrev S2048x8192 : Shape := ⟨2, ![2048, 8192]⟩
abbrev S16x256x64x8 : Shape := ⟨4, ![16, 256, 64, 8]⟩
abbrev S16x256x64 : Shape := ⟨3, ![16, 256, 64]⟩
abbrev S64 : Shape := ⟨1, ![64]⟩
abbrev S1x64 : Shape := ⟨2, ![1, 64]⟩
abbrev S16x64 : Shape := ⟨2, ![16, 64]⟩
abbrev S16x64x256 : Shape := ⟨3, ![16, 64, 256]⟩
abbrev S1024x256 : Shape := ⟨2, ![1024, 256]⟩
abbrev S1024 : Shape := ⟨1, ![1024]⟩
abbrev S1024x1 : Shape := ⟨2, ![1024, 1]⟩
abbrev S1024x8192 : Shape := ⟨2, ![1024, 8192]⟩
abbrev S1x4 : Shape := ⟨2, ![1, 4]⟩
abbrev S1x256x512 : Shape := ⟨3, ![1, 256, 512]⟩
abbrev S1x1x256x512 : Shape := ⟨4, ![1, 1, 256, 512]⟩
abbrev S1x1x1x1 : Shape := ⟨4, ![1, 1, 1, 1]⟩
abbrev S4 : Shape := ⟨1, ![4]⟩

abbrev nBuf : Space → Nat
  | .hbm => 615
  | .vmem => 13
  | .smem => 0
  | _ => 0

abbrev hbmTy0_0 (i : Nat) : BufTy := match i % 128 with
  | 0 => ⟨S16x256x512, .f32⟩
  | 1 => ⟨S16, .i32⟩
  | 2 => ⟨S8192x256, .f32⟩
  | 3 => ⟨S_, .f32⟩
  | 4 => ⟨S16x256x512, .f32⟩
  | 5 => ⟨S512, .i32⟩
  | 6 => ⟨S1x512, .i32⟩
  | 7 => ⟨S16x1, .i32⟩
  | 8 => ⟨S16x512, .i32⟩
  | 9 => ⟨S16x512, .i32⟩
  | 10 => ⟨S16x512, .i1⟩
  | 11 => ⟨S16x512, .f32⟩
  | 12 => ⟨S8192x256, .f32⟩
  | 13 => ⟨S_, .f32⟩
  | 14 => ⟨S8192, .f32⟩
  | 15 => ⟨S16x1x512, .f32⟩
  | 16 => ⟨S_, .f32⟩
  | 17 => ⟨S_, .f32⟩
  | 18 => ⟨S_, .f32⟩
  | 19 => ⟨S_, .f32⟩
  | 20 => ⟨S16x1x512, .f32⟩
  | 21 => ⟨S16x256x512, .f32⟩
  | 22 => ⟨S16x256x512, .f32⟩
  | 23 => ⟨S_, .i32⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i1⟩
  | 31 => ⟨S16, .i32⟩
  | 32 => ⟨S16, .i32⟩
  | 33 => ⟨S_, .i32⟩
  | 34 => ⟨S16, .i32⟩
  | 35 => ⟨S16, .i1⟩
  | 36 => ⟨S16, .i1⟩
  | 37 => ⟨S_, .i32⟩
  | 38 => ⟨S16, .i32⟩
  | 39 => ⟨S16, .i32⟩
  | 40 => ⟨S16, .i32⟩
  | 41 => ⟨S512, .i32⟩
  | 42 => ⟨S1x512, .i32⟩
  | 43 => ⟨S16x1, .i32⟩
  | 44 => ⟨S16x512, .i32⟩
  | 45 => ⟨S16x512, .i32⟩
  | 46 => ⟨S16x512, .i1⟩
  | 47 => ⟨S16x512x256, .f32⟩
  | 48 => ⟨S8192x256, .f32⟩
  | 49 => ⟨S8192x256, .f32⟩
  | 50 => ⟨S_, .f32⟩
  | 51 => ⟨S8192, .f32⟩
  | 52 => ⟨S8192x1, .f32⟩
  | 53 => ⟨S256x8192, .f32⟩
  | 54 => ⟨S8192x8192, .f32⟩
  | 55 => ⟨S_, .f32⟩
  | 56 => ⟨S8192x8192, .f32⟩
  | 57 => ⟨S8192x8192, .f32⟩
  | 58 => ⟨S8192x8192, .f32⟩
  | 59 => ⟨S8192x8192, .f32⟩
  | 60 => ⟨S1x8192, .f32⟩
  | 61 => ⟨S8192x8192, .f32⟩
  | 62 => ⟨S8192x8192, .f32⟩
  | 63 => ⟨S8192x8192, .f32⟩
  | 64 => ⟨S8192x8192, .i32⟩
  | 65 => ⟨S_, .f32⟩
  | 66 => ⟨S_, .i32⟩
  | 67 => ⟨S8192, .f32⟩
  | 68 => ⟨S8192, .i32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S1, .i32⟩
  | 78 => ⟨S_, .i32⟩
  | 79 => ⟨S8192x1, .i32⟩
  | 80 => ⟨S8192x1, .i1⟩
  | 81 => ⟨S1x1, .i32⟩
  | 82 => ⟨S8192x1, .i32⟩
  | 83 => ⟨S8192x1, .i1⟩
  | 84 => ⟨S8192x1, .i1⟩
  | 85 => ⟨S_, .i1⟩
  | 86 => ⟨S8192, .i1⟩
  | 87 => ⟨S8192x256, .f32⟩
  | 88 => ⟨S8192x256, .i1⟩
  | 89 => ⟨S_, .f32⟩
  | 90 => ⟨S8192x256, .f32⟩
  | 91 => ⟨S8192x256, .f32⟩
  | 92 => ⟨S8192, .i1⟩
  | 93 => ⟨S8192x1, .i1⟩
  | 94 => ⟨S_, .f32⟩
  | 95 => ⟨S_, .f32⟩
  | 96 => ⟨S8192x256, .i1⟩
  | 97 => ⟨S8192x256, .f32⟩
  | 98 => ⟨S8192x256, .f32⟩
  | 99 => ⟨S16x512x256, .f32⟩
  | 100 => ⟨S16x256x512, .f32⟩
  | 101 => ⟨S512, .f32⟩
  | 102 => ⟨S_, .f32⟩
  | 103 => ⟨S512, .f32⟩
  | 104 => ⟨S512, .f32⟩
  | 105 => ⟨S_, .f32⟩
  | 106 => ⟨S512, .f32⟩
  | 107 => ⟨S512, .f32⟩
  | 108 => ⟨S_, .f32⟩
  | 109 => ⟨S512, .f32⟩
  | 110 => ⟨S512, .f32⟩
  | 111 => ⟨S_, .f32⟩
  | 112 => ⟨S_, .i32⟩
  | 113 => ⟨S_, .f32⟩
  | 114 => ⟨S512, .f32⟩
  | 115 => ⟨S512, .f32⟩
  | 116 => ⟨S_, .f32⟩
  | 117 => ⟨S512, .f32⟩
  | 118 => ⟨S512, .f32⟩
  | 119 => ⟨S512, .f32⟩
  | 120 => ⟨S512, .i32⟩
  | 121 => ⟨S_, .i32⟩
  | 122 => ⟨S512, .i32⟩
  | 123 => ⟨S512, .i32⟩
  | 124 => ⟨S_, .i32⟩
  | 125 => ⟨S512, .i32⟩
  | 126 => ⟨S512, .i32⟩
  | 127 => ⟨S512, .f32⟩
  | _ => ⟨S16x256x512, .f32⟩

abbrev hbmTy0_1 (i : Nat) : BufTy := match i % 128 with
  | 0 => ⟨S512, .f32⟩
  | 1 => ⟨S_, .i32⟩
  | 2 => ⟨S512, .i32⟩
  | 3 => ⟨S512, .i1⟩
  | 4 => ⟨S_, .i32⟩
  | 5 => ⟨S512, .i32⟩
  | 6 => ⟨S512, .i32⟩
  | 7 => ⟨S512, .i32⟩
  | 8 => ⟨S512x1, .i32⟩
  | 9 => ⟨S16x256x512, .f32⟩
  | 10 => ⟨S_, .f32⟩
  | 11 => ⟨S512, .f32⟩
  | 12 => ⟨S512, .f32⟩
  | 13 => ⟨S1x1x512, .f32⟩
  | 14 => ⟨S16x256x512, .f32⟩
  | 15 => ⟨S16x256x512, .f32⟩
  | 16 => ⟨S_, .i32⟩
  | 17 => ⟨S512, .i32⟩
  | 18 => ⟨S512, .i1⟩
  | 19 => ⟨S_, .i32⟩
  | 20 => ⟨S512, .i32⟩
  | 21 => ⟨S512, .i32⟩
  | 22 => ⟨S512, .i32⟩
  | 23 => ⟨S512x1, .i32⟩
  | 24 => ⟨S16x256x512, .f32⟩
  | 25 => ⟨S1x1x512, .f32⟩
  | 26 => ⟨S16x256x512, .f32⟩
  | 27 => ⟨S16x256x512, .f32⟩
  | 28 => ⟨S16x256x512, .f32⟩
  | 29 => ⟨S16x256x512, .f32⟩
  | 30 => ⟨S16x256x512, .f32⟩
  | 31 => ⟨S16x1x512, .f32⟩
  | 32 => ⟨S16x256x512, .f32⟩
  | 33 => ⟨S16x256x512, .f32⟩
  | 34 => ⟨S16x256x256x2, .f32⟩
  | 35 => ⟨S_, .f32⟩
  | 36 => ⟨S16x256x256, .f32⟩
  | 37 => ⟨S_, .f32⟩
  | 38 => ⟨S16x256x256, .f32⟩
  | 39 => ⟨S16x256x256, .f32⟩
  | 40 => ⟨S_, .i32⟩
  | 41 => ⟨S_, .i32⟩
  | 42 => ⟨S16, .i32⟩
  | 43 => ⟨S16, .i32⟩
  | 44 => ⟨S16, .i32⟩
  | 45 => ⟨S_, .i32⟩
  | 46 => ⟨S16, .i32⟩
  | 47 => ⟨S16, .i1⟩
  | 48 => ⟨S16, .i32⟩
  | 49 => ⟨S16, .i32⟩
  | 50 => ⟨S_, .i32⟩
  | 51 => ⟨S16, .i32⟩
  | 52 => ⟨S16, .i1⟩
  | 53 => ⟨S16, .i1⟩
  | 54 => ⟨S_, .i32⟩
  | 55 => ⟨S16, .i32⟩
  | 56 => ⟨S16, .i32⟩
  | 57 => ⟨S16, .i32⟩
  | 58 => ⟨S256, .i32⟩
  | 59 => ⟨S1x256, .i32⟩
  | 60 => ⟨S16x1, .i32⟩
  | 61 => ⟨S16x256, .i32⟩
  | 62 => ⟨S16x256, .i32⟩
  | 63 => ⟨S16x256, .i1⟩
  | 64 => ⟨S16x256x256, .f32⟩
  | 65 => ⟨S4096x256, .f32⟩
  | 66 => ⟨S4096x256, .f32⟩
  | 67 => ⟨S_, .f32⟩
  | 68 => ⟨S4096, .f32⟩
  | 69 => ⟨S4096x1, .f32⟩
  | 70 => ⟨S256x8192, .f32⟩
  | 71 => ⟨S4096x8192, .f32⟩
  | 72 => ⟨S_, .f32⟩
  | 73 => ⟨S4096x8192, .f32⟩
  | 74 => ⟨S4096x8192, .f32⟩
  | 75 => ⟨S4096x8192, .f32⟩
  | 76 => ⟨S4096x8192, .f32⟩
  | 77 => ⟨S1x8192, .f32⟩
  | 78 => ⟨S4096x8192, .f32⟩
  | 79 => ⟨S4096x8192, .f32⟩
  | 80 => ⟨S4096x8192, .f32⟩
  | 81 => ⟨S4096x8192, .i32⟩
  | 82 => ⟨S_, .f32⟩
  | 83 => ⟨S_, .i32⟩
  | 84 => ⟨S4096, .f32⟩
  | 85 => ⟨S4096, .i32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S1, .i32⟩
  | 95 => ⟨S_, .i32⟩
  | 96 => ⟨S4096x1, .i32⟩
  | 97 => ⟨S4096x1, .i1⟩
  | 98 => ⟨S1x1, .i32⟩
  | 99 => ⟨S4096x1, .i32⟩
  | 100 => ⟨S4096x1, .i1⟩
  | 101 => ⟨S4096x1, .i1⟩
  | 102 => ⟨S_, .i1⟩
  | 103 => ⟨S4096, .i1⟩
  | 104 => ⟨S4096x256, .f32⟩
  | 105 => ⟨S4096x256, .i1⟩
  | 106 => ⟨S_, .f32⟩
  | 107 => ⟨S4096x256, .f32⟩
  | 108 => ⟨S4096x256, .f32⟩
  | 109 => ⟨S4096, .i1⟩
  | 110 => ⟨S4096x1, .i1⟩
  | 111 => ⟨S_, .f32⟩
  | 112 => ⟨S_, .f32⟩
  | 113 => ⟨S4096x256, .i1⟩
  | 114 => ⟨S4096x256, .f32⟩
  | 115 => ⟨S4096x256, .f32⟩
  | 116 => ⟨S16x256x256, .f32⟩
  | 117 => ⟨S16x256x256, .f32⟩
  | 118 => ⟨S512, .f32⟩
  | 119 => ⟨S_, .f32⟩
  | 120 => ⟨S512, .f32⟩
  | 121 => ⟨S512, .f32⟩
  | 122 => ⟨S_, .f32⟩
  | 123 => ⟨S512, .f32⟩
  | 124 => ⟨S512, .f32⟩
  | 125 => ⟨S_, .f32⟩
  | 126 => ⟨S512, .f32⟩
  | 127 => ⟨S512, .f32⟩
  | _ => ⟨S16x256x512, .f32⟩

abbrev hbmTy0_2 (i : Nat) : BufTy := match i % 128 with
  | 0 => ⟨S_, .f32⟩
  | 1 => ⟨S_, .i32⟩
  | 2 => ⟨S_, .f32⟩
  | 3 => ⟨S512, .f32⟩
  | 4 => ⟨S512, .f32⟩
  | 5 => ⟨S_, .f32⟩
  | 6 => ⟨S512, .f32⟩
  | 7 => ⟨S512, .f32⟩
  | 8 => ⟨S512, .f32⟩
  | 9 => ⟨S512, .i32⟩
  | 10 => ⟨S_, .i32⟩
  | 11 => ⟨S512, .i32⟩
  | 12 => ⟨S512, .i32⟩
  | 13 => ⟨S_, .i32⟩
  | 14 => ⟨S512, .i32⟩
  | 15 => ⟨S512, .i32⟩
  | 16 => ⟨S512, .f32⟩
  | 17 => ⟨S512, .f32⟩
  | 18 => ⟨S_, .i32⟩
  | 19 => ⟨S512, .i32⟩
  | 20 => ⟨S512, .i1⟩
  | 21 => ⟨S_, .i32⟩
  | 22 => ⟨S512, .i32⟩
  | 23 => ⟨S512, .i32⟩
  | 24 => ⟨S512, .i32⟩
  | 25 => ⟨S512x1, .i32⟩
  | 26 => ⟨S16x256x512, .f32⟩
  | 27 => ⟨S_, .f32⟩
  | 28 => ⟨S512, .f32⟩
  | 29 => ⟨S512, .f32⟩
  | 30 => ⟨S1x1x512, .f32⟩
  | 31 => ⟨S16x256x512, .f32⟩
  | 32 => ⟨S16x256x512, .f32⟩
  | 33 => ⟨S_, .i32⟩
  | 34 => ⟨S512, .i32⟩
  | 35 => ⟨S512, .i1⟩
  | 36 => ⟨S_, .i32⟩
  | 37 => ⟨S512, .i32⟩
  | 38 => ⟨S512, .i32⟩
  | 39 => ⟨S512, .i32⟩
  | 40 => ⟨S512x1, .i32⟩
  | 41 => ⟨S16x256x512, .f32⟩
  | 42 => ⟨S1x1x512, .f32⟩
  | 43 => ⟨S16x256x512, .f32⟩
  | 44 => ⟨S16x256x512, .f32⟩
  | 45 => ⟨S16x256x512, .f32⟩
  | 46 => ⟨S16x256x512, .f32⟩
  | 47 => ⟨S16x256x512, .f32⟩
  | 48 => ⟨S16x1x512, .f32⟩
  | 49 => ⟨S16x256x512, .f32⟩
  | 50 => ⟨S16x256x512, .f32⟩
  | 51 => ⟨S16x256x128x4, .f32⟩
  | 52 => ⟨S_, .f32⟩
  | 53 => ⟨S16x256x128, .f32⟩
  | 54 => ⟨S_, .f32⟩
  | 55 => ⟨S16x256x128, .f32⟩
  | 56 => ⟨S16x256x128, .f32⟩
  | 57 => ⟨S_, .i32⟩
  | 58 => ⟨S_, .i32⟩
  | 59 => ⟨S16, .i32⟩
  | 60 => ⟨S16, .i32⟩
  | 61 => ⟨S16, .i32⟩
  | 62 => ⟨S_, .i32⟩
  | 63 => ⟨S16, .i32⟩
  | 64 => ⟨S16, .i1⟩
  | 65 => ⟨S16, .i32⟩
  | 66 => ⟨S16, .i32⟩
  | 67 => ⟨S_, .i32⟩
  | 68 => ⟨S16, .i32⟩
  | 69 => ⟨S16, .i1⟩
  | 70 => ⟨S16, .i1⟩
  | 71 => ⟨S_, .i32⟩
  | 72 => ⟨S16, .i32⟩
  | 73 => ⟨S16, .i32⟩
  | 74 => ⟨S16, .i32⟩
  | 75 => ⟨S128, .i32⟩
  | 76 => ⟨S1x128, .i32⟩
  | 77 => ⟨S16x1, .i32⟩
  | 78 => ⟨S16x128, .i32⟩
  | 79 => ⟨S16x128, .i32⟩
  | 80 => ⟨S16x128, .i1⟩
  | 81 => ⟨S16x128x256, .f32⟩
  | 82 => ⟨S2048x256, .f32⟩
  | 83 => ⟨S2048x256, .f32⟩
  | 84 => ⟨S_, .f32⟩
  | 85 => ⟨S2048, .f32⟩
  | 86 => ⟨S2048x1, .f32⟩
  | 87 => ⟨S256x8192, .f32⟩
  | 88 => ⟨S2048x8192, .f32⟩
  | 89 => ⟨S_, .f32⟩
  | 90 => ⟨S2048x8192, .f32⟩
  | 91 => ⟨S2048x8192, .f32⟩
  | 92 => ⟨S2048x8192, .f32⟩
  | 93 => ⟨S2048x8192, .f32⟩
  | 94 => ⟨S1x8192, .f32⟩
  | 95 => ⟨S2048x8192, .f32⟩
  | 96 => ⟨S2048x8192, .f32⟩
  | 97 => ⟨S2048x8192, .f32⟩
  | 98 => ⟨S2048x8192, .i32⟩
  | 99 => ⟨S_, .f32⟩
  | 100 => ⟨S_, .i32⟩
  | 101 => ⟨S2048, .f32⟩
  | 102 => ⟨S2048, .i32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S1, .i32⟩
  | 112 => ⟨S_, .i32⟩
  | 113 => ⟨S2048x1, .i32⟩
  | 114 => ⟨S2048x1, .i1⟩
  | 115 => ⟨S1x1, .i32⟩
  | 116 => ⟨S2048x1, .i32⟩
  | 117 => ⟨S2048x1, .i1⟩
  | 118 => ⟨S2048x1, .i1⟩
  | 119 => ⟨S_, .i1⟩
  | 120 => ⟨S2048, .i1⟩
  | 121 => ⟨S2048x256, .f32⟩
  | 122 => ⟨S2048x256, .i1⟩
  | 123 => ⟨S_, .f32⟩
  | 124 => ⟨S2048x256, .f32⟩
  | 125 => ⟨S2048x256, .f32⟩
  | 126 => ⟨S2048, .i1⟩
  | 127 => ⟨S2048x1, .i1⟩
  | _ => ⟨S16x256x512, .f32⟩

abbrev hbmTy0_3 (i : Nat) : BufTy := match i % 128 with
  | 0 => ⟨S_, .f32⟩
  | 1 => ⟨S_, .f32⟩
  | 2 => ⟨S2048x256, .i1⟩
  | 3 => ⟨S2048x256, .f32⟩
  | 4 => ⟨S2048x256, .f32⟩
  | 5 => ⟨S16x128x256, .f32⟩
  | 6 => ⟨S16x256x128, .f32⟩
  | 7 => ⟨S512, .f32⟩
  | 8 => ⟨S_, .f32⟩
  | 9 => ⟨S512, .f32⟩
  | 10 => ⟨S512, .f32⟩
  | 11 => ⟨S_, .f32⟩
  | 12 => ⟨S512, .f32⟩
  | 13 => ⟨S512, .f32⟩
  | 14 => ⟨S_, .f32⟩
  | 15 => ⟨S512, .f32⟩
  | 16 => ⟨S512, .f32⟩
  | 17 => ⟨S_, .f32⟩
  | 18 => ⟨S_, .i32⟩
  | 19 => ⟨S_, .f32⟩
  | 20 => ⟨S512, .f32⟩
  | 21 => ⟨S512, .f32⟩
  | 22 => ⟨S_, .f32⟩
  | 23 => ⟨S512, .f32⟩
  | 24 => ⟨S512, .f32⟩
  | 25 => ⟨S512, .f32⟩
  | 26 => ⟨S512, .i32⟩
  | 27 => ⟨S_, .i32⟩
  | 28 => ⟨S512, .i32⟩
  | 29 => ⟨S512, .i32⟩
  | 30 => ⟨S_, .i32⟩
  | 31 => ⟨S512, .i32⟩
  | 32 => ⟨S512, .i32⟩
  | 33 => ⟨S512, .f32⟩
  | 34 => ⟨S512, .f32⟩
  | 35 => ⟨S_, .i32⟩
  | 36 => ⟨S512, .i32⟩
  | 37 => ⟨S512, .i1⟩
  | 38 => ⟨S_, .i32⟩
  | 39 => ⟨S512, .i32⟩
  | 40 => ⟨S512, .i32⟩
  | 41 => ⟨S512, .i32⟩
  | 42 => ⟨S512x1, .i32⟩
  | 43 => ⟨S16x256x512, .f32⟩
  | 44 => ⟨S_, .f32⟩
  | 45 => ⟨S512, .f32⟩
  | 46 => ⟨S512, .f32⟩
  | 47 => ⟨S1x1x512, .f32⟩
  | 48 => ⟨S16x256x512, .f32⟩
  | 49 => ⟨S16x256x512, .f32⟩
  | 50 => ⟨S_, .i32⟩
  | 51 => ⟨S512, .i32⟩
  | 52 => ⟨S512, .i1⟩
  | 53 => ⟨S_, .i32⟩
  | 54 => ⟨S512, .i32⟩
  | 55 => ⟨S512, .i32⟩
  | 56 => ⟨S512, .i32⟩
  | 57 => ⟨S512x1, .i32⟩
  | 58 => ⟨S16x256x512, .f32⟩
  | 59 => ⟨S1x1x512, .f32⟩
  | 60 => ⟨S16x256x512, .f32⟩
  | 61 => ⟨S16x256x512, .f32⟩
  | 62 => ⟨S16x256x512, .f32⟩
  | 63 => ⟨S16x256x512, .f32⟩
  | 64 => ⟨S16x256x512, .f32⟩
  | 65 => ⟨S16x1x512, .f32⟩
  | 66 => ⟨S16x256x512, .f32⟩
  | 67 => ⟨S16x256x512, .f32⟩
  | 68 => ⟨S16x256x64x8, .f32⟩
  | 69 => ⟨S_, .f32⟩
  | 70 => ⟨S16x256x64, .f32⟩
  | 71 => ⟨S_, .f32⟩
  | 72 => ⟨S16x256x64, .f32⟩
  | 73 => ⟨S16x256x64, .f32⟩
  | 74 => ⟨S_, .i32⟩
  | 75 => ⟨S_, .i32⟩
  | 76 => ⟨S16, .i32⟩
  | 77 => ⟨S16, .i32⟩
  | 78 => ⟨S16, .i32⟩
  | 79 => ⟨S_, .i32⟩
  | 80 => ⟨S16, .i32⟩
  | 81 => ⟨S16, .i1⟩
  | 82 => ⟨S16, .i32⟩
  | 83 => ⟨S16, .i32⟩
  | 84 => ⟨S_, .i32⟩
  | 85 => ⟨S16, .i32⟩
  | 86 => ⟨S16, .i1⟩
  | 87 => ⟨S16, .i1⟩
  | 88 => ⟨S_, .i32⟩
  | 89 => ⟨S16, .i32⟩
  | 90 => ⟨S16, .i32⟩
  | 91 => ⟨S16, .i32⟩
  | 92 => ⟨S64, .i32⟩
  | 93 => ⟨S1x64, .i32⟩
  | 94 => ⟨S16x1, .i32⟩
  | 95 => ⟨S16x64, .i32⟩
  | 96 => ⟨S16x64, .i32⟩
  | 97 => ⟨S16x64, .i1⟩
  | 98 => ⟨S16x64x256, .f32⟩
  | 99 => ⟨S1024x256, .f32⟩
  | 100 => ⟨S1024x256, .f32⟩
  | 101 => ⟨S_, .f32⟩
  | 102 => ⟨S1024, .f32⟩
  | 103 => ⟨S1024x1, .f32⟩
  | 104 => ⟨S256x8192, .f32⟩
  | 105 => ⟨S1024x8192, .f32⟩
  | 106 => ⟨S_, .f32⟩
  | 107 => ⟨S1024x8192, .f32⟩
  | 108 => ⟨S1024x8192, .f32⟩
  | 109 => ⟨S1024x8192, .f32⟩
  | 110 => ⟨S1024x8192, .f32⟩
  | 111 => ⟨S1x8192, .f32⟩
  | 112 => ⟨S1024x8192, .f32⟩
  | 113 => ⟨S1024x8192, .f32⟩
  | 114 => ⟨S1024x8192, .f32⟩
  | 115 => ⟨S1024x8192, .i32⟩
  | 116 => ⟨S_, .f32⟩
  | 117 => ⟨S_, .i32⟩
  | 118 => ⟨S1024, .f32⟩
  | 119 => ⟨S1024, .i32⟩
  | 120 => ⟨S_, .i32⟩
  | 121 => ⟨S1024, .i32⟩
  | 122 => ⟨S1024, .i1⟩
  | 123 => ⟨S_, .i32⟩
  | 124 => ⟨S1024, .i32⟩
  | 125 => ⟨S1024, .i32⟩
  | 126 => ⟨S1024, .i32⟩
  | 127 => ⟨S1024x1, .i32⟩
  | _ => ⟨S16x256x512, .f32⟩

abbrev hbmTy0_4 (i : Nat) : BufTy := match i % 128 with
  | 0 => ⟨S1, .i32⟩
  | 1 => ⟨S_, .i32⟩
  | 2 => ⟨S1024x1, .i32⟩
  | 3 => ⟨S1024x1, .i1⟩
  | 4 => ⟨S1x1, .i32⟩
  | 5 => ⟨S1024x1, .i32⟩
  | 6 => ⟨S1024x1, .i1⟩
  | 7 => ⟨S1024x1, .i1⟩
  | 8 => ⟨S_, .i1⟩
  | 9 => ⟨S1024, .i1⟩
  | 10 => ⟨S1024x256, .f32⟩
  | 11 => ⟨S1024x256, .i1⟩
  | 12 => ⟨S_, .f32⟩
  | 13 => ⟨S1024x256, .f32⟩
  | 14 => ⟨S1024x256, .f32⟩
  | 15 => ⟨S1024, .i1⟩
  | 16 => ⟨S1024x1, .i1⟩
  | 17 => ⟨S_, .f32⟩
  | 18 => ⟨S_, .f32⟩
  | 19 => ⟨S1024x256, .i1⟩
  | 20 => ⟨S1024x256, .f32⟩
  | 21 => ⟨S1024x256, .f32⟩
  | 22 => ⟨S16x64x256, .f32⟩
  | 23 => ⟨S16x256x64, .f32⟩
  | 24 => ⟨S512, .f32⟩
  | 25 => ⟨S_, .f32⟩
  | 26 => ⟨S512, .f32⟩
  | 27 => ⟨S512, .f32⟩
  | 28 => ⟨S_, .f32⟩
  | 29 => ⟨S512, .f32⟩
  | 30 => ⟨S512, .f32⟩
  | 31 => ⟨S_, .f32⟩
  | 32 => ⟨S512, .f32⟩
  | 33 => ⟨S512, .f32⟩
  | 34 => ⟨S_, .f32⟩
  | 35 => ⟨S_, .i32⟩
  | 36 => ⟨S_, .f32⟩
  | 37 => ⟨S512, .f32⟩
  | 38 => ⟨S512, .f32⟩
  | 39 => ⟨S_, .f32⟩
  | 40 => ⟨S512, .f32⟩
  | 41 => ⟨S512, .f32⟩
  | 42 => ⟨S512, .f32⟩
  | 43 => ⟨S512, .i32⟩
  | 44 => ⟨S_, .i32⟩
  | 45 => ⟨S512, .i32⟩
  | 46 => ⟨S512, .i32⟩
  | 47 => ⟨S_, .i32⟩
  | 48 => ⟨S512, .i32⟩
  | 49 => ⟨S512, .i32⟩
  | 50 => ⟨S512, .f32⟩
  | 51 => ⟨S512, .f32⟩
  | 52 => ⟨S_, .i32⟩
  | 53 => ⟨S512, .i32⟩
  | 54 => ⟨S512, .i1⟩
  | 55 => ⟨S_, .i32⟩
  | 56 => ⟨S512, .i32⟩
  | 57 => ⟨S512, .i32⟩
  | 58 => ⟨S512, .i32⟩
  | 59 => ⟨S512x1, .i32⟩
  | 60 => ⟨S16x256x512, .f32⟩
  | 61 => ⟨S_, .f32⟩
  | 62 => ⟨S512, .f32⟩
  | 63 => ⟨S512, .f32⟩
  | 64 => ⟨S1x1x512, .f32⟩
  | 65 => ⟨S16x256x512, .f32⟩
  | 66 => ⟨S16x256x512, .f32⟩
  | 67 => ⟨S_, .i32⟩
  | 68 => ⟨S512, .i32⟩
  | 69 => ⟨S512, .i1⟩
  | 70 => ⟨S_, .i32⟩
  | 71 => ⟨S512, .i32⟩
  | 72 => ⟨S512, .i32⟩
  | 73 => ⟨S512, .i32⟩
  | 74 => ⟨S512x1, .i32⟩
  | 75 => ⟨S16x256x512, .f32⟩
  | 76 => ⟨S1x1x512, .f32⟩
  | 77 => ⟨S16x256x512, .f32⟩
  | 78 => ⟨S16x256x512, .f32⟩
  | 79 => ⟨S16x256x512, .f32⟩
  | 80 => ⟨S16x256x512, .f32⟩
  | 81 => ⟨S16x256x512, .f32⟩
  | 82 => ⟨S1x4, .f32⟩
  | 83 => ⟨S4, .f32⟩
  | 84 => ⟨S1, .f32⟩
  | 85 => ⟨S_, .f32⟩
  | 86 => ⟨S_, .f32⟩
  | 87 => ⟨S_, .f32⟩
  | 88 => ⟨S_, .f32⟩
  | 89 => ⟨S1, .f32⟩
  | 90 => ⟨S_, .f32⟩
  | 91 => ⟨S_, .f32⟩
  | 92 => ⟨S_, .f32⟩
  | 93 => ⟨S1, .f32⟩
  | 94 => ⟨S_, .f32⟩
  | 95 => ⟨S_, .f32⟩
  | 96 => ⟨S_, .f32⟩
  | 97 => ⟨S1, .f32⟩
  | 98 => ⟨S_, .f32⟩
  | 99 => ⟨S_, .f32⟩
  | 100 => ⟨S_, .f32⟩
  | 101 => ⟨S16x256x512, .f32⟩
  | 102 => ⟨S16x256x512, .f32⟩
  | _ => ⟨S16x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x256x512, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x1x512, .f32⟩
  | .local _ .vmem, ⟨11, _⟩ => ⟨S1x1x512, .f32⟩
  | .local _ .vmem, ⟨12, _⟩ => ⟨S1x4, .f32⟩
  | _, _ => ⟨S16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_cst : Ref sig .tc := ⟨.hbm, 65, rfl⟩
abbrev main_call1_c : Ref sig .tc := ⟨.hbm, 66, rfl⟩
abbrev main_call1_v1_0 : Ref sig .tc := ⟨.hbm, 67, rfl⟩
abbrev main_v38 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_5 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_cst_6 : Ref sig .tc := ⟨.hbm, 102, rfl⟩
abbrev main_v46 : Ref sig .tc := ⟨.hbm, 103, rfl⟩
abbrev main_v47 : Ref sig .tc := ⟨.hbm, 104, rfl⟩
abbrev main_cst_7 : Ref sig .tc := ⟨.hbm, 105, rfl⟩
abbrev main_v48 : Ref sig .tc := ⟨.hbm, 106, rfl⟩
abbrev main_v49 : Ref sig .tc := ⟨.hbm, 107, rfl⟩
abbrev main_cst_8 : Ref sig .tc := ⟨.hbm, 108, rfl⟩
abbrev main_v50 : Ref sig .tc := ⟨.hbm, 109, rfl⟩
abbrev main_v51 : Ref sig .tc := ⟨.hbm, 110, rfl⟩
abbrev main_cst_9 : Ref sig .tc := ⟨.hbm, 111, rfl⟩
abbrev main_c_10 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_c_11 : Ref sig .tc := ⟨.hbm, 121, rfl⟩
abbrev main_v55 : Ref sig .tc := ⟨.hbm, 122, rfl⟩
abbrev main_v56 : Ref sig .tc := ⟨.hbm, 123, rfl⟩
abbrev main_c_12 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_c_13 : Ref sig .tc := ⟨.hbm, 129, rfl⟩
abbrev main_v61 : Ref sig .tc := ⟨.hbm, 130, rfl⟩
abbrev main_v62 : Ref sig .tc := ⟨.hbm, 131, rfl⟩
abbrev main_c_14 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_cst_15 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_c_16 : Ref sig .tc := ⟨.hbm, 144, rfl⟩
abbrev main_v73 : Ref sig .tc := ⟨.hbm, 145, rfl⟩
abbrev main_v74 : Ref sig .tc := ⟨.hbm, 146, rfl⟩
abbrev main_c_17 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_cst_18 : Ref sig .tc := ⟨.hbm, 163, rfl⟩
abbrev main_v90 : Ref sig .tc := ⟨.hbm, 164, rfl⟩
abbrev main_cst_19 : Ref sig .tc := ⟨.hbm, 165, rfl⟩
abbrev main_v91 : Ref sig .tc := ⟨.hbm, 166, rfl⟩
abbrev main_v92 : Ref sig .tc := ⟨.hbm, 167, rfl⟩
abbrev main_c_20 : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_call5_v5 : Ref sig .tc := ⟨.hbm, 174, rfl⟩
abbrev main_call5_v6 : Ref sig .tc := ⟨.hbm, 175, rfl⟩
abbrev main_call5_v7 : Ref sig .tc := ⟨.hbm, 176, rfl⟩
abbrev main_call5_v8 : Ref sig .tc := ⟨.hbm, 177, rfl⟩
abbrev main_call5_c : Ref sig .tc := ⟨.hbm, 178, rfl⟩
abbrev main_call5_v9 : Ref sig .tc := ⟨.hbm, 179, rfl⟩
abbrev main_call5_v10 : Ref sig .tc := ⟨.hbm, 180, rfl⟩
abbrev main_call5_v11 : Ref sig .tc := ⟨.hbm, 181, rfl⟩
abbrev main_call5_c_0 : Ref sig .tc := ⟨.hbm, 182, rfl⟩
abbrev main_call5_v12 : Ref sig .tc := ⟨.hbm, 183, rfl⟩
abbrev main_call5_v13 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_cst_21 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_cst_22 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_call6_v0 : Ref sig .tc := ⟨.hbm, 209, rfl⟩
abbrev main_call6_cst : Ref sig .tc := ⟨.hbm, 210, rfl⟩
abbrev main_call6_c : Ref sig .tc := ⟨.hbm, 211, rfl⟩
abbrev main_call6_v1_0 : Ref sig .tc := ⟨.hbm, 212, rfl⟩
abbrev main_v115 : Ref sig .tc := ⟨.hbm, 213, rfl⟩
abbrev main_call7_c : Ref sig .tc := ⟨.hbm, 214, rfl⟩
abbrev main_call7_v0 : Ref sig .tc := ⟨.hbm, 215, rfl⟩
abbrev main_call7_v1 : Ref sig .tc := ⟨.hbm, 216, rfl⟩
abbrev main_call7_c_0 : Ref sig .tc := ⟨.hbm, 217, rfl⟩
abbrev main_call7_v2 : Ref sig .tc := ⟨.hbm, 218, rfl⟩
abbrev main_call7_v3 : Ref sig .tc := ⟨.hbm, 219, rfl⟩
abbrev main_call7_v4 : Ref sig .tc := ⟨.hbm, 220, rfl⟩
abbrev main_call7_v5 : Ref sig .tc := ⟨.hbm, 221, rfl⟩
abbrev main_call7_c_1 : Ref sig .tc := ⟨.hbm, 222, rfl⟩
abbrev main_call7_c_2 : Ref sig .tc := ⟨.hbm, 223, rfl⟩
abbrev main_call7_v6 : Ref sig .tc := ⟨.hbm, 224, rfl⟩
abbrev main_call7_v7 : Ref sig .tc := ⟨.hbm, 225, rfl⟩
abbrev main_call7_v8 : Ref sig .tc := ⟨.hbm, 226, rfl⟩
abbrev main_call7_v9 : Ref sig .tc := ⟨.hbm, 227, rfl⟩
abbrev main_call7_v10 : Ref sig .tc := ⟨.hbm, 228, rfl⟩
abbrev main_call7_v11 : Ref sig .tc := ⟨.hbm, 229, rfl⟩
abbrev main_call7_c_3 : Ref sig .tc := ⟨.hbm, 230, rfl⟩
abbrev main_call7_v12 : Ref sig .tc := ⟨.hbm, 231, rfl⟩
abbrev main_call7_v13 : Ref sig .tc := ⟨.hbm, 232, rfl⟩
abbrev main_call7_v14 : Ref sig .tc := ⟨.hbm, 233, rfl⟩
abbrev main_call7_cst : Ref sig .tc := ⟨.hbm, 234, rfl⟩
abbrev main_call7_v15 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_cst_23 : Ref sig .tc := ⟨.hbm, 239, rfl⟩
abbrev main_call8_v0 : Ref sig .tc := ⟨.hbm, 240, rfl⟩
abbrev main_call8_v1 : Ref sig .tc := ⟨.hbm, 241, rfl⟩
abbrev main_call8_v2 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_cst_24 : Ref sig .tc := ⟨.hbm, 247, rfl⟩
abbrev main_v123 : Ref sig .tc := ⟨.hbm, 248, rfl⟩
abbrev main_v124 : Ref sig .tc := ⟨.hbm, 249, rfl⟩
abbrev main_cst_25 : Ref sig .tc := ⟨.hbm, 250, rfl⟩
abbrev main_v125 : Ref sig .tc := ⟨.hbm, 251, rfl⟩
abbrev main_v126 : Ref sig .tc := ⟨.hbm, 252, rfl⟩
abbrev main_cst_26 : Ref sig .tc := ⟨.hbm, 253, rfl⟩
abbrev main_v127 : Ref sig .tc := ⟨.hbm, 254, rfl⟩
abbrev main_v128 : Ref sig .tc := ⟨.hbm, 255, rfl⟩
abbrev main_cst_27 : Ref sig .tc := ⟨.hbm, 256, rfl⟩
abbrev main_c_28 : Ref sig .tc := ⟨.hbm, 257, rfl⟩
abbrev main_call9_v0 : Ref sig .tc := ⟨.hbm, 258, rfl⟩
abbrev main_call9_v1 : Ref sig .tc := ⟨.hbm, 259, rfl⟩
abbrev main_call9_v2 : Ref sig .tc := ⟨.hbm, 260, rfl⟩
abbrev main_call9_v3 : Ref sig .tc := ⟨.hbm, 261, rfl⟩
abbrev main_call9_v4 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_c_29 : Ref sig .tc := ⟨.hbm, 266, rfl⟩
abbrev main_v132 : Ref sig .tc := ⟨.hbm, 267, rfl⟩
abbrev main_v133 : Ref sig .tc := ⟨.hbm, 268, rfl⟩
abbrev main_c_30 : Ref sig .tc := ⟨.hbm, 269, rfl⟩
abbrev main_v134 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_c_31 : Ref sig .tc := ⟨.hbm, 274, rfl⟩
abbrev main_v138 : Ref sig .tc := ⟨.hbm, 275, rfl⟩
abbrev main_v139 : Ref sig .tc := ⟨.hbm, 276, rfl⟩
abbrev main_c_32 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_cst_33 : Ref sig .tc := ⟨.hbm, 283, rfl⟩
abbrev main_v145 : Ref sig .tc := ⟨.hbm, 284, rfl⟩
abbrev main_v146 : Ref sig .tc := ⟨.hbm, 285, rfl⟩
abbrev main_v147 : Ref sig .tc := ⟨.hbm, 286, rfl⟩
abbrev main_v148 : Ref sig .tc := ⟨.hbm, 287, rfl⟩
abbrev main_v149 : Ref sig .tc := ⟨.hbm, 288, rfl⟩
abbrev main_c_34 : Ref sig .tc := ⟨.hbm, 289, rfl⟩
abbrev main_v150 : Ref sig .tc := ⟨.hbm, 290, rfl⟩
abbrev main_v151 : Ref sig .tc := ⟨.hbm, 291, rfl⟩
abbrev main_c_35 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_v156 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_v160 : Ref sig .tc := ⟨.hbm, 301, rfl⟩
abbrev main_v161 : Ref sig .tc := ⟨.hbm, 302, rfl⟩
abbrev main_v162 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_cst_36 : Ref sig .tc := ⟨.hbm, 308, rfl⟩
abbrev main_v167 : Ref sig .tc := ⟨.hbm, 309, rfl⟩
abbrev main_cst_37 : Ref sig .tc := ⟨.hbm, 310, rfl⟩
abbrev main_v168 : Ref sig .tc := ⟨.hbm, 311, rfl⟩
abbrev main_v169 : Ref sig .tc := ⟨.hbm, 312, rfl⟩
abbrev main_c_38 : Ref sig .tc := ⟨.hbm, 313, rfl⟩
abbrev main_call10_v0 : Ref sig .tc := ⟨.hbm, 314, rfl⟩
abbrev main_call10_v1 : Ref sig .tc := ⟨.hbm, 315, rfl⟩
abbrev main_call10_v2 : Ref sig .tc := ⟨.hbm, 316, rfl⟩
abbrev main_call10_v3 : Ref sig .tc := ⟨.hbm, 317, rfl⟩
abbrev main_call10_v4 : Ref sig .tc := ⟨.hbm, 318, rfl⟩
abbrev main_call10_v5 : Ref sig .tc := ⟨.hbm, 319, rfl⟩
abbrev main_call10_v6 : Ref sig .tc := ⟨.hbm, 320, rfl⟩
abbrev main_call10_v7 : Ref sig .tc := ⟨.hbm, 321, rfl⟩
abbrev main_call10_v8 : Ref sig .tc := ⟨.hbm, 322, rfl⟩
abbrev main_call10_c : Ref sig .tc := ⟨.hbm, 323, rfl⟩
abbrev main_call10_v9 : Ref sig .tc := ⟨.hbm, 324, rfl⟩
abbrev main_call10_v10 : Ref sig .tc := ⟨.hbm, 325, rfl⟩
abbrev main_call10_v11 : Ref sig .tc := ⟨.hbm, 326, rfl⟩
abbrev main_call10_c_0 : Ref sig .tc := ⟨.hbm, 327, rfl⟩
abbrev main_call10_v12 : Ref sig .tc := ⟨.hbm, 328, rfl⟩
abbrev main_call10_v13 : Ref sig .tc := ⟨.hbm, 329, rfl⟩
abbrev main_v170 : Ref sig .tc := ⟨.hbm, 330, rfl⟩
abbrev main_v171 : Ref sig .tc := ⟨.hbm, 331, rfl⟩
abbrev main_v172 : Ref sig .tc := ⟨.hbm, 332, rfl⟩
abbrev main_v173 : Ref sig .tc := ⟨.hbm, 333, rfl⟩
abbrev main_v174 : Ref sig .tc := ⟨.hbm, 334, rfl⟩
abbrev main_v175 : Ref sig .tc := ⟨.hbm, 335, rfl⟩
abbrev main_v176 : Ref sig .tc := ⟨.hbm, 336, rfl⟩
abbrev main_v177 : Ref sig .tc := ⟨.hbm, 337, rfl⟩
abbrev main_v178 : Ref sig .tc := ⟨.hbm, 338, rfl⟩
abbrev main_v179 : Ref sig .tc := ⟨.hbm, 339, rfl⟩
abbrev main_cst_39 : Ref sig .tc := ⟨.hbm, 340, rfl⟩
abbrev main_v180 : Ref sig .tc := ⟨.hbm, 341, rfl⟩
abbrev main_v181 : Ref sig .tc := ⟨.hbm, 342, rfl⟩
abbrev main_v182 : Ref sig .tc := ⟨.hbm, 343, rfl⟩
abbrev main_v183 : Ref sig .tc := ⟨.hbm, 344, rfl⟩
abbrev main_cst_40 : Ref sig .tc := ⟨.hbm, 345, rfl⟩
abbrev main_v184 : Ref sig .tc := ⟨.hbm, 346, rfl⟩
abbrev main_v185 : Ref sig .tc := ⟨.hbm, 347, rfl⟩
abbrev main_v186 : Ref sig .tc := ⟨.hbm, 348, rfl⟩
abbrev main_v187 : Ref sig .tc := ⟨.hbm, 349, rfl⟩
abbrev main_v188 : Ref sig .tc := ⟨.hbm, 350, rfl⟩
abbrev main_v189 : Ref sig .tc := ⟨.hbm, 351, rfl⟩
abbrev main_v190 : Ref sig .tc := ⟨.hbm, 352, rfl⟩
abbrev main_v191 : Ref sig .tc := ⟨.hbm, 353, rfl⟩
abbrev main_call11_v0 : Ref sig .tc := ⟨.hbm, 354, rfl⟩
abbrev main_call11_cst : Ref sig .tc := ⟨.hbm, 355, rfl⟩
abbrev main_call11_c : Ref sig .tc := ⟨.hbm, 356, rfl⟩
abbrev main_call11_v1_0 : Ref sig .tc := ⟨.hbm, 357, rfl⟩
abbrev main_v192 : Ref sig .tc := ⟨.hbm, 358, rfl⟩
abbrev main_call12_c : Ref sig .tc := ⟨.hbm, 359, rfl⟩
abbrev main_call12_v0 : Ref sig .tc := ⟨.hbm, 360, rfl⟩
abbrev main_call12_v1 : Ref sig .tc := ⟨.hbm, 361, rfl⟩
abbrev main_call12_c_0 : Ref sig .tc := ⟨.hbm, 362, rfl⟩
abbrev main_call12_v2 : Ref sig .tc := ⟨.hbm, 363, rfl⟩
abbrev main_call12_v3 : Ref sig .tc := ⟨.hbm, 364, rfl⟩
abbrev main_call12_v4 : Ref sig .tc := ⟨.hbm, 365, rfl⟩
abbrev main_call12_v5 : Ref sig .tc := ⟨.hbm, 366, rfl⟩
abbrev main_call12_c_1 : Ref sig .tc := ⟨.hbm, 367, rfl⟩
abbrev main_call12_c_2 : Ref sig .tc := ⟨.hbm, 368, rfl⟩
abbrev main_call12_v6 : Ref sig .tc := ⟨.hbm, 369, rfl⟩
abbrev main_call12_v7 : Ref sig .tc := ⟨.hbm, 370, rfl⟩
abbrev main_call12_v8 : Ref sig .tc := ⟨.hbm, 371, rfl⟩
abbrev main_call12_v9 : Ref sig .tc := ⟨.hbm, 372, rfl⟩
abbrev main_call12_v10 : Ref sig .tc := ⟨.hbm, 373, rfl⟩
abbrev main_call12_v11 : Ref sig .tc := ⟨.hbm, 374, rfl⟩
abbrev main_call12_c_3 : Ref sig .tc := ⟨.hbm, 375, rfl⟩
abbrev main_call12_v12 : Ref sig .tc := ⟨.hbm, 376, rfl⟩
abbrev main_call12_v13 : Ref sig .tc := ⟨.hbm, 377, rfl⟩
abbrev main_call12_v14 : Ref sig .tc := ⟨.hbm, 378, rfl⟩
abbrev main_call12_cst : Ref sig .tc := ⟨.hbm, 379, rfl⟩
abbrev main_call12_v15 : Ref sig .tc := ⟨.hbm, 380, rfl⟩
abbrev main_v193 : Ref sig .tc := ⟨.hbm, 381, rfl⟩
abbrev main_v194 : Ref sig .tc := ⟨.hbm, 382, rfl⟩
abbrev main_v195 : Ref sig .tc := ⟨.hbm, 383, rfl⟩
abbrev main_cst_41 : Ref sig .tc := ⟨.hbm, 384, rfl⟩
abbrev main_call13_v0 : Ref sig .tc := ⟨.hbm, 385, rfl⟩
abbrev main_call13_v1 : Ref sig .tc := ⟨.hbm, 386, rfl⟩
abbrev main_call13_v2 : Ref sig .tc := ⟨.hbm, 387, rfl⟩
abbrev main_v196 : Ref sig .tc := ⟨.hbm, 388, rfl⟩
abbrev main_v197 : Ref sig .tc := ⟨.hbm, 389, rfl⟩
abbrev main_v198 : Ref sig .tc := ⟨.hbm, 390, rfl⟩
abbrev main_v199 : Ref sig .tc := ⟨.hbm, 391, rfl⟩
abbrev main_cst_42 : Ref sig .tc := ⟨.hbm, 392, rfl⟩
abbrev main_v200 : Ref sig .tc := ⟨.hbm, 393, rfl⟩
abbrev main_v201 : Ref sig .tc := ⟨.hbm, 394, rfl⟩
abbrev main_cst_43 : Ref sig .tc := ⟨.hbm, 395, rfl⟩
abbrev main_v202 : Ref sig .tc := ⟨.hbm, 396, rfl⟩
abbrev main_v203 : Ref sig .tc := ⟨.hbm, 397, rfl⟩
abbrev main_cst_44 : Ref sig .tc := ⟨.hbm, 398, rfl⟩
abbrev main_v204 : Ref sig .tc := ⟨.hbm, 399, rfl⟩
abbrev main_v205 : Ref sig .tc := ⟨.hbm, 400, rfl⟩
abbrev main_cst_45 : Ref sig .tc := ⟨.hbm, 401, rfl⟩
abbrev main_c_46 : Ref sig .tc := ⟨.hbm, 402, rfl⟩
abbrev main_call14_v0 : Ref sig .tc := ⟨.hbm, 403, rfl⟩
abbrev main_call14_v1 : Ref sig .tc := ⟨.hbm, 404, rfl⟩
abbrev main_call14_v2 : Ref sig .tc := ⟨.hbm, 405, rfl⟩
abbrev main_call14_v3 : Ref sig .tc := ⟨.hbm, 406, rfl⟩
abbrev main_call14_v4 : Ref sig .tc := ⟨.hbm, 407, rfl⟩
abbrev main_v206 : Ref sig .tc := ⟨.hbm, 408, rfl⟩
abbrev main_v207 : Ref sig .tc := ⟨.hbm, 409, rfl⟩
abbrev main_v208 : Ref sig .tc := ⟨.hbm, 410, rfl⟩
abbrev main_c_47 : Ref sig .tc := ⟨.hbm, 411, rfl⟩
abbrev main_v209 : Ref sig .tc := ⟨.hbm, 412, rfl⟩
abbrev main_v210 : Ref sig .tc := ⟨.hbm, 413, rfl⟩
abbrev main_c_48 : Ref sig .tc := ⟨.hbm, 414, rfl⟩
abbrev main_v211 : Ref sig .tc := ⟨.hbm, 415, rfl⟩
abbrev main_v212 : Ref sig .tc := ⟨.hbm, 416, rfl⟩
abbrev main_v213 : Ref sig .tc := ⟨.hbm, 417, rfl⟩
abbrev main_v214 : Ref sig .tc := ⟨.hbm, 418, rfl⟩
abbrev main_c_49 : Ref sig .tc := ⟨.hbm, 419, rfl⟩
abbrev main_v215 : Ref sig .tc := ⟨.hbm, 420, rfl⟩
abbrev main_v216 : Ref sig .tc := ⟨.hbm, 421, rfl⟩
abbrev main_c_50 : Ref sig .tc := ⟨.hbm, 422, rfl⟩
abbrev main_v217 : Ref sig .tc := ⟨.hbm, 423, rfl⟩
abbrev main_v218 : Ref sig .tc := ⟨.hbm, 424, rfl⟩
abbrev main_v219 : Ref sig .tc := ⟨.hbm, 425, rfl⟩
abbrev main_v220 : Ref sig .tc := ⟨.hbm, 426, rfl⟩
abbrev main_v221 : Ref sig .tc := ⟨.hbm, 427, rfl⟩
abbrev main_cst_51 : Ref sig .tc := ⟨.hbm, 428, rfl⟩
abbrev main_v222 : Ref sig .tc := ⟨.hbm, 429, rfl⟩
abbrev main_v223 : Ref sig .tc := ⟨.hbm, 430, rfl⟩
abbrev main_v224 : Ref sig .tc := ⟨.hbm, 431, rfl⟩
abbrev main_v225 : Ref sig .tc := ⟨.hbm, 432, rfl⟩
abbrev main_v226 : Ref sig .tc := ⟨.hbm, 433, rfl⟩
abbrev main_c_52 : Ref sig .tc := ⟨.hbm, 434, rfl⟩
abbrev main_v227 : Ref sig .tc := ⟨.hbm, 435, rfl⟩
abbrev main_v228 : Ref sig .tc := ⟨.hbm, 436, rfl⟩
abbrev main_c_53 : Ref sig .tc := ⟨.hbm, 437, rfl⟩
abbrev main_v229 : Ref sig .tc := ⟨.hbm, 438, rfl⟩
abbrev main_v230 : Ref sig .tc := ⟨.hbm, 439, rfl⟩
abbrev main_v231 : Ref sig .tc := ⟨.hbm, 440, rfl⟩
abbrev main_v232 : Ref sig .tc := ⟨.hbm, 441, rfl⟩
abbrev main_v233 : Ref sig .tc := ⟨.hbm, 442, rfl⟩
abbrev main_v234 : Ref sig .tc := ⟨.hbm, 443, rfl⟩
abbrev main_v235 : Ref sig .tc := ⟨.hbm, 444, rfl⟩
abbrev main_v236 : Ref sig .tc := ⟨.hbm, 445, rfl⟩
abbrev main_v237 : Ref sig .tc := ⟨.hbm, 446, rfl⟩
abbrev main_v238 : Ref sig .tc := ⟨.hbm, 447, rfl⟩
abbrev main_v239 : Ref sig .tc := ⟨.hbm, 448, rfl⟩
abbrev main_v240 : Ref sig .tc := ⟨.hbm, 449, rfl⟩
abbrev main_v241 : Ref sig .tc := ⟨.hbm, 450, rfl⟩
abbrev main_v242 : Ref sig .tc := ⟨.hbm, 451, rfl⟩
abbrev main_v243 : Ref sig .tc := ⟨.hbm, 452, rfl⟩
abbrev main_cst_54 : Ref sig .tc := ⟨.hbm, 453, rfl⟩
abbrev main_v244 : Ref sig .tc := ⟨.hbm, 454, rfl⟩
abbrev main_cst_55 : Ref sig .tc := ⟨.hbm, 455, rfl⟩
abbrev main_v245 : Ref sig .tc := ⟨.hbm, 456, rfl⟩
abbrev main_v246 : Ref sig .tc := ⟨.hbm, 457, rfl⟩
abbrev main_c_56 : Ref sig .tc := ⟨.hbm, 458, rfl⟩
abbrev main_call15_v0 : Ref sig .tc := ⟨.hbm, 459, rfl⟩
abbrev main_call15_v1 : Ref sig .tc := ⟨.hbm, 460, rfl⟩
abbrev main_call15_v2 : Ref sig .tc := ⟨.hbm, 461, rfl⟩
abbrev main_call15_v3 : Ref sig .tc := ⟨.hbm, 462, rfl⟩
abbrev main_call15_v4 : Ref sig .tc := ⟨.hbm, 463, rfl⟩
abbrev main_call15_v5 : Ref sig .tc := ⟨.hbm, 464, rfl⟩
abbrev main_call15_v6 : Ref sig .tc := ⟨.hbm, 465, rfl⟩
abbrev main_call15_v7 : Ref sig .tc := ⟨.hbm, 466, rfl⟩
abbrev main_call15_v8 : Ref sig .tc := ⟨.hbm, 467, rfl⟩
abbrev main_call15_c : Ref sig .tc := ⟨.hbm, 468, rfl⟩
abbrev main_call15_v9 : Ref sig .tc := ⟨.hbm, 469, rfl⟩
abbrev main_call15_v10 : Ref sig .tc := ⟨.hbm, 470, rfl⟩
abbrev main_call15_v11 : Ref sig .tc := ⟨.hbm, 471, rfl⟩
abbrev main_call15_c_0 : Ref sig .tc := ⟨.hbm, 472, rfl⟩
abbrev main_call15_v12 : Ref sig .tc := ⟨.hbm, 473, rfl⟩
abbrev main_call15_v13 : Ref sig .tc := ⟨.hbm, 474, rfl⟩
abbrev main_v247 : Ref sig .tc := ⟨.hbm, 475, rfl⟩
abbrev main_v248 : Ref sig .tc := ⟨.hbm, 476, rfl⟩
abbrev main_v249 : Ref sig .tc := ⟨.hbm, 477, rfl⟩
abbrev main_v250 : Ref sig .tc := ⟨.hbm, 478, rfl⟩
abbrev main_v251 : Ref sig .tc := ⟨.hbm, 479, rfl⟩
abbrev main_v252 : Ref sig .tc := ⟨.hbm, 480, rfl⟩
abbrev main_v253 : Ref sig .tc := ⟨.hbm, 481, rfl⟩
abbrev main_v254 : Ref sig .tc := ⟨.hbm, 482, rfl⟩
abbrev main_v255 : Ref sig .tc := ⟨.hbm, 483, rfl⟩
abbrev main_v256 : Ref sig .tc := ⟨.hbm, 484, rfl⟩
abbrev main_cst_57 : Ref sig .tc := ⟨.hbm, 485, rfl⟩
abbrev main_v257 : Ref sig .tc := ⟨.hbm, 486, rfl⟩
abbrev main_v258 : Ref sig .tc := ⟨.hbm, 487, rfl⟩
abbrev main_v259 : Ref sig .tc := ⟨.hbm, 488, rfl⟩
abbrev main_v260 : Ref sig .tc := ⟨.hbm, 489, rfl⟩
abbrev main_cst_58 : Ref sig .tc := ⟨.hbm, 490, rfl⟩
abbrev main_v261 : Ref sig .tc := ⟨.hbm, 491, rfl⟩
abbrev main_v262 : Ref sig .tc := ⟨.hbm, 492, rfl⟩
abbrev main_v263 : Ref sig .tc := ⟨.hbm, 493, rfl⟩
abbrev main_v264 : Ref sig .tc := ⟨.hbm, 494, rfl⟩
abbrev main_v265 : Ref sig .tc := ⟨.hbm, 495, rfl⟩
abbrev main_v266 : Ref sig .tc := ⟨.hbm, 496, rfl⟩
abbrev main_v267 : Ref sig .tc := ⟨.hbm, 497, rfl⟩
abbrev main_v268 : Ref sig .tc := ⟨.hbm, 498, rfl⟩
abbrev main_call16_v0 : Ref sig .tc := ⟨.hbm, 499, rfl⟩
abbrev main_call16_cst : Ref sig .tc := ⟨.hbm, 500, rfl⟩
abbrev main_call16_c : Ref sig .tc := ⟨.hbm, 501, rfl⟩
abbrev main_call16_v1_0 : Ref sig .tc := ⟨.hbm, 502, rfl⟩
abbrev main_v269 : Ref sig .tc := ⟨.hbm, 503, rfl⟩
abbrev main_call17_c : Ref sig .tc := ⟨.hbm, 504, rfl⟩
abbrev main_call17_v0 : Ref sig .tc := ⟨.hbm, 505, rfl⟩
abbrev main_call17_v1 : Ref sig .tc := ⟨.hbm, 506, rfl⟩
abbrev main_call17_c_0 : Ref sig .tc := ⟨.hbm, 507, rfl⟩
abbrev main_call17_v2 : Ref sig .tc := ⟨.hbm, 508, rfl⟩
abbrev main_call17_v3 : Ref sig .tc := ⟨.hbm, 509, rfl⟩
abbrev main_call17_v4 : Ref sig .tc := ⟨.hbm, 510, rfl⟩
abbrev main_call17_v5 : Ref sig .tc := ⟨.hbm, 511, rfl⟩
abbrev main_call17_c_1 : Ref sig .tc := ⟨.hbm, 512, rfl⟩
abbrev main_call17_c_2 : Ref sig .tc := ⟨.hbm, 513, rfl⟩
abbrev main_call17_v6 : Ref sig .tc := ⟨.hbm, 514, rfl⟩
abbrev main_call17_v7 : Ref sig .tc := ⟨.hbm, 515, rfl⟩
abbrev main_call17_v8 : Ref sig .tc := ⟨.hbm, 516, rfl⟩
abbrev main_call17_v9 : Ref sig .tc := ⟨.hbm, 517, rfl⟩
abbrev main_call17_v10 : Ref sig .tc := ⟨.hbm, 518, rfl⟩
abbrev main_call17_v11 : Ref sig .tc := ⟨.hbm, 519, rfl⟩
abbrev main_call17_c_3 : Ref sig .tc := ⟨.hbm, 520, rfl⟩
abbrev main_call17_v12 : Ref sig .tc := ⟨.hbm, 521, rfl⟩
abbrev main_call17_v13 : Ref sig .tc := ⟨.hbm, 522, rfl⟩
abbrev main_call17_v14 : Ref sig .tc := ⟨.hbm, 523, rfl⟩
abbrev main_call17_cst : Ref sig .tc := ⟨.hbm, 524, rfl⟩
abbrev main_call17_v15 : Ref sig .tc := ⟨.hbm, 525, rfl⟩
abbrev main_v270 : Ref sig .tc := ⟨.hbm, 526, rfl⟩
abbrev main_v271 : Ref sig .tc := ⟨.hbm, 527, rfl⟩
abbrev main_v272 : Ref sig .tc := ⟨.hbm, 528, rfl⟩
abbrev main_cst_59 : Ref sig .tc := ⟨.hbm, 529, rfl⟩
abbrev main_call18_v0 : Ref sig .tc := ⟨.hbm, 530, rfl⟩
abbrev main_call18_v1 : Ref sig .tc := ⟨.hbm, 531, rfl⟩
abbrev main_call18_v2 : Ref sig .tc := ⟨.hbm, 532, rfl⟩
abbrev main_v273 : Ref sig .tc := ⟨.hbm, 533, rfl⟩
abbrev main_v274 : Ref sig .tc := ⟨.hbm, 534, rfl⟩
abbrev main_v275 : Ref sig .tc := ⟨.hbm, 535, rfl⟩
abbrev main_v276 : Ref sig .tc := ⟨.hbm, 536, rfl⟩
abbrev main_cst_60 : Ref sig .tc := ⟨.hbm, 537, rfl⟩
abbrev main_v277 : Ref sig .tc := ⟨.hbm, 538, rfl⟩
abbrev main_v278 : Ref sig .tc := ⟨.hbm, 539, rfl⟩
abbrev main_cst_61 : Ref sig .tc := ⟨.hbm, 540, rfl⟩
abbrev main_v279 : Ref sig .tc := ⟨.hbm, 541, rfl⟩
abbrev main_v280 : Ref sig .tc := ⟨.hbm, 542, rfl⟩
abbrev main_cst_62 : Ref sig .tc := ⟨.hbm, 543, rfl⟩
abbrev main_v281 : Ref sig .tc := ⟨.hbm, 544, rfl⟩
abbrev main_v282 : Ref sig .tc := ⟨.hbm, 545, rfl⟩
abbrev main_cst_63 : Ref sig .tc := ⟨.hbm, 546, rfl⟩
abbrev main_c_64 : Ref sig .tc := ⟨.hbm, 547, rfl⟩
abbrev main_call19_v0 : Ref sig .tc := ⟨.hbm, 548, rfl⟩
abbrev main_call19_v1 : Ref sig .tc := ⟨.hbm, 549, rfl⟩
abbrev main_call19_v2 : Ref sig .tc := ⟨.hbm, 550, rfl⟩
abbrev main_call19_v3 : Ref sig .tc := ⟨.hbm, 551, rfl⟩
abbrev main_call19_v4 : Ref sig .tc := ⟨.hbm, 552, rfl⟩
abbrev main_v283 : Ref sig .tc := ⟨.hbm, 553, rfl⟩
abbrev main_v284 : Ref sig .tc := ⟨.hbm, 554, rfl⟩
abbrev main_v285 : Ref sig .tc := ⟨.hbm, 555, rfl⟩
abbrev main_c_65 : Ref sig .tc := ⟨.hbm, 556, rfl⟩
abbrev main_v286 : Ref sig .tc := ⟨.hbm, 557, rfl⟩
abbrev main_v287 : Ref sig .tc := ⟨.hbm, 558, rfl⟩
abbrev main_c_66 : Ref sig .tc := ⟨.hbm, 559, rfl⟩
abbrev main_v288 : Ref sig .tc := ⟨.hbm, 560, rfl⟩
abbrev main_v289 : Ref sig .tc := ⟨.hbm, 561, rfl⟩
abbrev main_v290 : Ref sig .tc := ⟨.hbm, 562, rfl⟩
abbrev main_v291 : Ref sig .tc := ⟨.hbm, 563, rfl⟩
abbrev main_c_67 : Ref sig .tc := ⟨.hbm, 564, rfl⟩
abbrev main_v292 : Ref sig .tc := ⟨.hbm, 565, rfl⟩
abbrev main_v293 : Ref sig .tc := ⟨.hbm, 566, rfl⟩
abbrev main_c_68 : Ref sig .tc := ⟨.hbm, 567, rfl⟩
abbrev main_v294 : Ref sig .tc := ⟨.hbm, 568, rfl⟩
abbrev main_v295 : Ref sig .tc := ⟨.hbm, 569, rfl⟩
abbrev main_v296 : Ref sig .tc := ⟨.hbm, 570, rfl⟩
abbrev main_v297 : Ref sig .tc := ⟨.hbm, 571, rfl⟩
abbrev main_v298 : Ref sig .tc := ⟨.hbm, 572, rfl⟩
abbrev main_cst_69 : Ref sig .tc := ⟨.hbm, 573, rfl⟩
abbrev main_v299 : Ref sig .tc := ⟨.hbm, 574, rfl⟩
abbrev main_v300 : Ref sig .tc := ⟨.hbm, 575, rfl⟩
abbrev main_v301 : Ref sig .tc := ⟨.hbm, 576, rfl⟩
abbrev main_v302 : Ref sig .tc := ⟨.hbm, 577, rfl⟩
abbrev main_v303 : Ref sig .tc := ⟨.hbm, 578, rfl⟩
abbrev main_c_70 : Ref sig .tc := ⟨.hbm, 579, rfl⟩
abbrev main_v304 : Ref sig .tc := ⟨.hbm, 580, rfl⟩
abbrev main_v305 : Ref sig .tc := ⟨.hbm, 581, rfl⟩
abbrev main_c_71 : Ref sig .tc := ⟨.hbm, 582, rfl⟩
abbrev main_v306 : Ref sig .tc := ⟨.hbm, 583, rfl⟩
abbrev main_v307 : Ref sig .tc := ⟨.hbm, 584, rfl⟩
abbrev main_v308 : Ref sig .tc := ⟨.hbm, 585, rfl⟩
abbrev main_v309 : Ref sig .tc := ⟨.hbm, 586, rfl⟩
abbrev main_v310 : Ref sig .tc := ⟨.hbm, 587, rfl⟩
abbrev main_v311 : Ref sig .tc := ⟨.hbm, 588, rfl⟩
abbrev main_v312 : Ref sig .tc := ⟨.hbm, 589, rfl⟩
abbrev main_v313 : Ref sig .tc := ⟨.hbm, 590, rfl⟩
abbrev main_v314 : Ref sig .tc := ⟨.hbm, 591, rfl⟩
abbrev main_v315 : Ref sig .tc := ⟨.hbm, 592, rfl⟩
abbrev main_v316 : Ref sig .tc := ⟨.hbm, 593, rfl⟩
abbrev main_v317 : Ref sig .tc := ⟨.hbm, 594, rfl⟩
abbrev main_v318 : Ref sig .tc := ⟨.hbm, 595, rfl⟩
abbrev main_v319 : Ref sig .tc := ⟨.hbm, 596, rfl⟩
abbrev main_v320 : Ref sig .tc := ⟨.hbm, 597, rfl⟩
abbrev main_v321 : Ref sig .tc := ⟨.hbm, 598, rfl⟩
abbrev main_cst_72 : Ref sig .tc := ⟨.hbm, 599, rfl⟩
abbrev main_v322 : Ref sig .tc := ⟨.hbm, 600, rfl⟩
abbrev main_v323 : Ref sig .tc := ⟨.hbm, 601, rfl⟩
abbrev main_v324 : Ref sig .tc := ⟨.hbm, 602, rfl⟩
abbrev main_v325 : Ref sig .tc := ⟨.hbm, 603, rfl⟩
abbrev main_v326 : Ref sig .tc := ⟨.hbm, 604, rfl⟩
abbrev main_v327 : Ref sig .tc := ⟨.hbm, 605, rfl⟩
abbrev main_v328 : Ref sig .tc := ⟨.hbm, 606, rfl⟩
abbrev main_v329 : Ref sig .tc := ⟨.hbm, 607, rfl⟩
abbrev main_v330 : Ref sig .tc := ⟨.hbm, 608, rfl⟩
abbrev main_v331 : Ref sig .tc := ⟨.hbm, 609, rfl⟩
abbrev main_v332 : Ref sig .tc := ⟨.hbm, 610, rfl⟩
abbrev main_v333 : Ref sig .tc := ⟨.hbm, 611, rfl⟩
abbrev main_v334 : Ref sig .tc := ⟨.hbm, 612, rfl⟩
abbrev main_v335 : Ref sig .tc := ⟨.hbm, 613, rfl⟩
abbrev main_v336 : Ref sig .tc := ⟨.hbm, 614, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_20 : BitVec 32 := 0#32
  let v50 : BitVec 1 := Scalar.cmpi .ne v49 c0_i32_20
  v50

def k0_cond2 (i : grid0.Coords) : BitVec 1 :=
  let arg0 : BitVec 32 := BitVec.ofNat 32 (i 0).val
  let c0_i32_21 : BitVec 32 := 0#32
  let v51 : BitVec 1 := Scalar.cmpi .ne arg0 c0_i32_21
  let v52 : BitVec 32 := Scalar.extui v51
  let c0_i32_22 : BitVec 32 := 0#32
  let v53 : BitVec 1 := Scalar.cmpi .ne v52 c0_i32_22
  v53

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x256x512 : Shape := ⟨3, ![16, 256, 512]⟩
abbrev S16 : Shape := ⟨1, ![16]⟩
abbrev S8192x256 : Shape := ⟨2, ![8192, 256]⟩
abbrev S_ : Shape := ⟨0, ![]⟩
abbrev S512 : Shape := ⟨1, ![512]⟩
abbrev S1x512 : Shape := ⟨2, ![1, 512]⟩
abbrev S16x1 : Shape := ⟨2, ![16, 1]⟩
abbrev S16x512 : Shape := ⟨2, ![16, 512]⟩
abbrev S8192 : Shape := ⟨1, ![8192]⟩
abbrev S16x1x512 : Shape := ⟨3, ![16, 1, 512]⟩
abbrev S16x512x256 : Shape := ⟨3, ![16, 512, 256]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩
abbrev S1 : Shape := ⟨1, ![1]⟩
abbrev S1x1 : Shape := ⟨2, ![1, 1]⟩
abbrev S512x1 : Shape := ⟨2, ![512, 1]⟩
abbrev S1x1x512 : Shape := ⟨3, ![1, 1, 512]⟩
abbrev S16x256x256x2 : Shape := ⟨4, ![16, 256, 256, 2]⟩
abbrev S16x256x256 : Shape := ⟨3, ![16, 256, 256]⟩
abbrev S256 : Shape := ⟨1, ![256]⟩
abbrev S1x256 : Shape := ⟨2, ![1, 256]⟩
abbrev S16x256 : Shape := ⟨2, ![16, 256]⟩
abbrev S4096x256 : Shape := ⟨2, ![4096, 256]⟩
abbrev S4096 : Shape := ⟨1, ![4096]⟩
abbrev S4096x1 : Shape := ⟨2, ![4096, 1]⟩
abbrev S4096x8192 : Shape := ⟨2, ![4096, 8192]⟩
abbrev S16x256x128x4 : Shape := ⟨4, ![16, 256, 128, 4]⟩
abbrev S16x256x128 : Shape := ⟨3, ![16, 256, 128]⟩
abbrev S128 : Shape := ⟨1, ![128]⟩
abbrev S1x128 : Shape := ⟨2, ![1, 128]⟩
abbrev S16x128 : Shape := ⟨2, ![16, 128]⟩
abbrev S16x128x256 : Shape := ⟨3, ![16, 128, 256]⟩
abbrev S2048x256 : Shape := ⟨2, ![2048, 256]⟩
abbrev S2048 : Shape := ⟨1, ![2048]⟩
abbrev S2048x1 : Shape := ⟨2, ![2048, 1]⟩
abbrev S2048x8192 : Shape := ⟨2, ![2048, 8192]⟩
abbrev S16x256x64x8 : Shape := ⟨4, ![16, 256, 64, 8]⟩
abbrev S16x256x64 : Shape := ⟨3, ![16, 256, 64]⟩
abbrev S64 : Shape := ⟨1, ![64]⟩
abbrev S1x64 : Shape := ⟨2, ![1, 64]⟩
abbrev S16x64 : Shape := ⟨2, ![16, 64]⟩
abbrev S16x64x256 : Shape := ⟨3, ![16, 64, 256]⟩
abbrev S1024x256 : Shape := ⟨2, ![1024, 256]⟩
abbrev S1024 : Shape := ⟨1, ![1024]⟩
abbrev S1024x1 : Shape := ⟨2, ![1024, 1]⟩
abbrev S1024x8192 : Shape := ⟨2, ![1024, 8192]⟩

abbrev nBuf : Space → Nat
  | .hbm => 644
  | .vmem => 0
  | .smem => 0
  | _ => 0

abbrev hbmTy0_0 (i : Nat) : BufTy := match i % 128 with
  | 0 => ⟨S16x256x512, .f32⟩
  | 1 => ⟨S16, .i32⟩
  | 2 => ⟨S8192x256, .f32⟩
  | 3 => ⟨S_, .f32⟩
  | 4 => ⟨S16x256x512, .f32⟩
  | 5 => ⟨S512, .i32⟩
  | 6 => ⟨S1x512, .i32⟩
  | 7 => ⟨S16x1, .i32⟩
  | 8 => ⟨S16x512, .i32⟩
  | 9 => ⟨S16x512, .i32⟩
  | 10 => ⟨S16x512, .i1⟩
  | 11 => ⟨S16x512, .f32⟩
  | 12 => ⟨S8192x256, .f32⟩
  | 13 => ⟨S_, .f32⟩
  | 14 => ⟨S8192, .f32⟩
  | 15 => ⟨S16x1x512, .f32⟩
  | 16 => ⟨S16x256x512, .f32⟩
  | 17 => ⟨S16x256x512, .f32⟩
  | 18 => ⟨S_, .i32⟩
  | 19 => ⟨S_, .i32⟩
  | 20 => ⟨S16, .i32⟩
  | 21 => ⟨S16, .i32⟩
  | 22 => ⟨S16, .i32⟩
  | 23 => ⟨S_, .i32⟩
  | 24 => ⟨S16, .i32⟩
  | 25 => ⟨S16, .i1⟩
  | 26 => ⟨S16, .i32⟩
  | 27 => ⟨S16, .i32⟩
  | 28 => ⟨S_, .i32⟩
  | 29 => ⟨S16, .i32⟩
  | 30 => ⟨S16, .i1⟩
  | 31 => ⟨S16, .i1⟩
  | 32 => ⟨S_, .i32⟩
  | 33 => ⟨S16, .i32⟩
  | 34 => ⟨S16, .i32⟩
  | 35 => ⟨S16, .i32⟩
  | 36 => ⟨S512, .i32⟩
  | 37 => ⟨S1x512, .i32⟩
  | 38 => ⟨S16x1, .i32⟩
  | 39 => ⟨S16x512, .i32⟩
  | 40 => ⟨S16x512, .i32⟩
  | 41 => ⟨S16x512, .i1⟩
  | 42 => ⟨S16x512x256, .f32⟩
  | 43 => ⟨S8192x256, .f32⟩
  | 44 => ⟨S8192x256, .f32⟩
  | 45 => ⟨S_, .f32⟩
  | 46 => ⟨S8192, .f32⟩
  | 47 => ⟨S8192x1, .f32⟩
  | 48 => ⟨S256x8192, .f32⟩
  | 49 => ⟨S8192x8192, .f32⟩
  | 50 => ⟨S_, .f32⟩
  | 51 => ⟨S8192x8192, .f32⟩
  | 52 => ⟨S8192x8192, .f32⟩
  | 53 => ⟨S8192x8192, .f32⟩
  | 54 => ⟨S8192x8192, .f32⟩
  | 55 => ⟨S1x8192, .f32⟩
  | 56 => ⟨S8192x8192, .f32⟩
  | 57 => ⟨S8192x8192, .f32⟩
  | 58 => ⟨S8192x8192, .f32⟩
  | 59 => ⟨S8192x8192, .i32⟩
  | 60 => ⟨S_, .f32⟩
  | 61 => ⟨S_, .i32⟩
  | 62 => ⟨S8192, .f32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S1, .i32⟩
  | 73 => ⟨S_, .i32⟩
  | 74 => ⟨S8192x1, .i32⟩
  | 75 => ⟨S8192x1, .i1⟩
  | 76 => ⟨S1x1, .i32⟩
  | 77 => ⟨S8192x1, .i32⟩
  | 78 => ⟨S8192x1, .i1⟩
  | 79 => ⟨S8192x1, .i1⟩
  | 80 => ⟨S_, .i1⟩
  | 81 => ⟨S8192, .i1⟩
  | 82 => ⟨S8192x256, .f32⟩
  | 83 => ⟨S8192x256, .i1⟩
  | 84 => ⟨S_, .f32⟩
  | 85 => ⟨S8192x256, .f32⟩
  | 86 => ⟨S8192x256, .f32⟩
  | 87 => ⟨S8192, .i1⟩
  | 88 => ⟨S8192x1, .i1⟩
  | 89 => ⟨S_, .f32⟩
  | 90 => ⟨S_, .f32⟩
  | 91 => ⟨S8192x256, .i1⟩
  | 92 => ⟨S8192x256, .f32⟩
  | 93 => ⟨S8192x256, .f32⟩
  | 94 => ⟨S16x512x256, .f32⟩
  | 95 => ⟨S16x256x512, .f32⟩
  | 96 => ⟨S512, .f32⟩
  | 97 => ⟨S_, .f32⟩
  | 98 => ⟨S512, .f32⟩
  | 99 => ⟨S512, .f32⟩
  | 100 => ⟨S_, .f32⟩
  | 101 => ⟨S512, .f32⟩
  | 102 => ⟨S512, .f32⟩
  | 103 => ⟨S_, .f32⟩
  | 104 => ⟨S512, .f32⟩
  | 105 => ⟨S512, .f32⟩
  | 106 => ⟨S_, .f32⟩
  | 107 => ⟨S_, .i32⟩
  | 108 => ⟨S_, .f32⟩
  | 109 => ⟨S512, .f32⟩
  | 110 => ⟨S512, .f32⟩
  | 111 => ⟨S_, .f32⟩
  | 112 => ⟨S512, .f32⟩
  | 113 => ⟨S512, .f32⟩
  | 114 => ⟨S512, .f32⟩
  | 115 => ⟨S512, .i32⟩
  | 116 => ⟨S_, .i32⟩
  | 117 => ⟨S512, .i32⟩
  | 118 => ⟨S512, .i32⟩
  | 119 => ⟨S_, .i32⟩
  | 120 => ⟨S512, .i32⟩
  | 121 => ⟨S512, .i32⟩
  | 122 => ⟨S512, .f32⟩
  | 123 => ⟨S512, .f32⟩
  | 124 => ⟨S_, .i32⟩
  | 125 => ⟨S512, .i32⟩
  | 126 => ⟨S512, .i1⟩
  | 127 => ⟨S_, .i32⟩
  | _ => ⟨S16x256x512, .f32⟩

abbrev hbmTy0_1 (i : Nat) : BufTy := match i % 128 with
  | 0 => ⟨S512, .i32⟩
  | 1 => ⟨S512, .i32⟩
  | 2 => ⟨S512, .i32⟩
  | 3 => ⟨S512x1, .i32⟩
  | 4 => ⟨S16x256x512, .f32⟩
  | 5 => ⟨S_, .f32⟩
  | 6 => ⟨S512, .f32⟩
  | 7 => ⟨S512, .f32⟩
  | 8 => ⟨S1x1x512, .f32⟩
  | 9 => ⟨S16x256x512, .f32⟩
  | 10 => ⟨S16x256x512, .f32⟩
  | 11 => ⟨S_, .i32⟩
  | 12 => ⟨S512, .i32⟩
  | 13 => ⟨S512, .i1⟩
  | 14 => ⟨S_, .i32⟩
  | 15 => ⟨S512, .i32⟩
  | 16 => ⟨S512, .i32⟩
  | 17 => ⟨S512, .i32⟩
  | 18 => ⟨S512x1, .i32⟩
  | 19 => ⟨S16x256x512, .f32⟩
  | 20 => ⟨S1x1x512, .f32⟩
  | 21 => ⟨S16x256x512, .f32⟩
  | 22 => ⟨S16x256x512, .f32⟩
  | 23 => ⟨S16x256x512, .f32⟩
  | 24 => ⟨S16x256x512, .f32⟩
  | 25 => ⟨S16x256x512, .f32⟩
  | 26 => ⟨S16x256x512, .f32⟩
  | 27 => ⟨S16x256x512, .f32⟩
  | 28 => ⟨S16x1x512, .f32⟩
  | 29 => ⟨S_, .f32⟩
  | 30 => ⟨S_, .f32⟩
  | 31 => ⟨S_, .f32⟩
  | 32 => ⟨S_, .f32⟩
  | 33 => ⟨S16x256x512, .f32⟩
  | 34 => ⟨S16x256x512, .f32⟩
  | 35 => ⟨S_, .f32⟩
  | 36 => ⟨S_, .f32⟩
  | 37 => ⟨S_, .f32⟩
  | 38 => ⟨S_, .f32⟩
  | 39 => ⟨S_, .f32⟩
  | 40 => ⟨S16x1x512, .f32⟩
  | 41 => ⟨S16x256x512, .f32⟩
  | 42 => ⟨S16x256x512, .f32⟩
  | 43 => ⟨S16x256x256x2, .f32⟩
  | 44 => ⟨S_, .f32⟩
  | 45 => ⟨S16x256x256, .f32⟩
  | 46 => ⟨S_, .f32⟩
  | 47 => ⟨S16x256x256, .f32⟩
  | 48 => ⟨S16x256x256, .f32⟩
  | 49 => ⟨S_, .i32⟩
  | 50 => ⟨S_, .i32⟩
  | 51 => ⟨S16, .i32⟩
  | 52 => ⟨S16, .i32⟩
  | 53 => ⟨S16, .i32⟩
  | 54 => ⟨S_, .i32⟩
  | 55 => ⟨S16, .i32⟩
  | 56 => ⟨S16, .i1⟩
  | 57 => ⟨S16, .i32⟩
  | 58 => ⟨S16, .i32⟩
  | 59 => ⟨S_, .i32⟩
  | 60 => ⟨S16, .i32⟩
  | 61 => ⟨S16, .i1⟩
  | 62 => ⟨S16, .i1⟩
  | 63 => ⟨S_, .i32⟩
  | 64 => ⟨S16, .i32⟩
  | 65 => ⟨S16, .i32⟩
  | 66 => ⟨S16, .i32⟩
  | 67 => ⟨S256, .i32⟩
  | 68 => ⟨S1x256, .i32⟩
  | 69 => ⟨S16x1, .i32⟩
  | 70 => ⟨S16x256, .i32⟩
  | 71 => ⟨S16x256, .i32⟩
  | 72 => ⟨S16x256, .i1⟩
  | 73 => ⟨S16x256x256, .f32⟩
  | 74 => ⟨S4096x256, .f32⟩
  | 75 => ⟨S4096x256, .f32⟩
  | 76 => ⟨S_, .f32⟩
  | 77 => ⟨S4096, .f32⟩
  | 78 => ⟨S4096x1, .f32⟩
  | 79 => ⟨S256x8192, .f32⟩
  | 80 => ⟨S4096x8192, .f32⟩
  | 81 => ⟨S_, .f32⟩
  | 82 => ⟨S4096x8192, .f32⟩
  | 83 => ⟨S4096x8192, .f32⟩
  | 84 => ⟨S4096x8192, .f32⟩
  | 85 => ⟨S4096x8192, .f32⟩
  | 86 => ⟨S1x8192, .f32⟩
  | 87 => ⟨S4096x8192, .f32⟩
  | 88 => ⟨S4096x8192, .f32⟩
  | 89 => ⟨S4096x8192, .f32⟩
  | 90 => ⟨S4096x8192, .i32⟩
  | 91 => ⟨S_, .f32⟩
  | 92 => ⟨S_, .i32⟩
  | 93 => ⟨S4096, .f32⟩
  | 94 => ⟨S4096, .i32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S1, .i32⟩
  | 104 => ⟨S_, .i32⟩
  | 105 => ⟨S4096x1, .i32⟩
  | 106 => ⟨S4096x1, .i1⟩
  | 107 => ⟨S1x1, .i32⟩
  | 108 => ⟨S4096x1, .i32⟩
  | 109 => ⟨S4096x1, .i1⟩
  | 110 => ⟨S4096x1, .i1⟩
  | 111 => ⟨S_, .i1⟩
  | 112 => ⟨S4096, .i1⟩
  | 113 => ⟨S4096x256, .f32⟩
  | 114 => ⟨S4096x256, .i1⟩
  | 115 => ⟨S_, .f32⟩
  | 116 => ⟨S4096x256, .f32⟩
  | 117 => ⟨S4096x256, .f32⟩
  | 118 => ⟨S4096, .i1⟩
  | 119 => ⟨S4096x1, .i1⟩
  | 120 => ⟨S_, .f32⟩
  | 121 => ⟨S_, .f32⟩
  | 122 => ⟨S4096x256, .i1⟩
  | 123 => ⟨S4096x256, .f32⟩
  | 124 => ⟨S4096x256, .f32⟩
  | 125 => ⟨S16x256x256, .f32⟩
  | 126 => ⟨S16x256x256, .f32⟩
  | 127 => ⟨S512, .f32⟩
  | _ => ⟨S16x256x512, .f32⟩

abbrev hbmTy0_2 (i : Nat) : BufTy := match i % 128 with
  | 0 => ⟨S_, .f32⟩
  | 1 => ⟨S512, .f32⟩
  | 2 => ⟨S512, .f32⟩
  | 3 => ⟨S_, .f32⟩
  | 4 => ⟨S512, .f32⟩
  | 5 => ⟨S512, .f32⟩
  | 6 => ⟨S_, .f32⟩
  | 7 => ⟨S512, .f32⟩
  | 8 => ⟨S512, .f32⟩
  | 9 => ⟨S_, .f32⟩
  | 10 => ⟨S_, .i32⟩
  | 11 => ⟨S_, .f32⟩
  | 12 => ⟨S512, .f32⟩
  | 13 => ⟨S512, .f32⟩
  | 14 => ⟨S_, .f32⟩
  | 15 => ⟨S512, .f32⟩
  | 16 => ⟨S512, .f32⟩
  | 17 => ⟨S512, .f32⟩
  | 18 => ⟨S512, .i32⟩
  | 19 => ⟨S_, .i32⟩
  | 20 => ⟨S512, .i32⟩
  | 21 => ⟨S512, .i32⟩
  | 22 => ⟨S_, .i32⟩
  | 23 => ⟨S512, .i32⟩
  | 24 => ⟨S512, .i32⟩
  | 25 => ⟨S512, .f32⟩
  | 26 => ⟨S512, .f32⟩
  | 27 => ⟨S_, .i32⟩
  | 28 => ⟨S512, .i32⟩
  | 29 => ⟨S512, .i1⟩
  | 30 => ⟨S_, .i32⟩
  | 31 => ⟨S512, .i32⟩
  | 32 => ⟨S512, .i32⟩
  | 33 => ⟨S512, .i32⟩
  | 34 => ⟨S512x1, .i32⟩
  | 35 => ⟨S16x256x512, .f32⟩
  | 36 => ⟨S_, .f32⟩
  | 37 => ⟨S512, .f32⟩
  | 38 => ⟨S512, .f32⟩
  | 39 => ⟨S1x1x512, .f32⟩
  | 40 => ⟨S16x256x512, .f32⟩
  | 41 => ⟨S16x256x512, .f32⟩
  | 42 => ⟨S_, .i32⟩
  | 43 => ⟨S512, .i32⟩
  | 44 => ⟨S512, .i1⟩
  | 45 => ⟨S_, .i32⟩
  | 46 => ⟨S512, .i32⟩
  | 47 => ⟨S512, .i32⟩
  | 48 => ⟨S512, .i32⟩
  | 49 => ⟨S512x1, .i32⟩
  | 50 => ⟨S16x256x512, .f32⟩
  | 51 => ⟨S1x1x512, .f32⟩
  | 52 => ⟨S16x256x512, .f32⟩
  | 53 => ⟨S16x256x512, .f32⟩
  | 54 => ⟨S16x256x512, .f32⟩
  | 55 => ⟨S16x256x512, .f32⟩
  | 56 => ⟨S16x256x512, .f32⟩
  | 57 => ⟨S16x256x512, .f32⟩
  | 58 => ⟨S16x256x512, .f32⟩
  | 59 => ⟨S16x1x512, .f32⟩
  | 60 => ⟨S_, .f32⟩
  | 61 => ⟨S_, .f32⟩
  | 62 => ⟨S_, .f32⟩
  | 63 => ⟨S_, .f32⟩
  | 64 => ⟨S16x256x512, .f32⟩
  | 65 => ⟨S16x256x512, .f32⟩
  | 66 => ⟨S_, .f32⟩
  | 67 => ⟨S_, .f32⟩
  | 68 => ⟨S_, .f32⟩
  | 69 => ⟨S_, .f32⟩
  | 70 => ⟨S16x1x512, .f32⟩
  | 71 => ⟨S16x256x512, .f32⟩
  | 72 => ⟨S16x256x512, .f32⟩
  | 73 => ⟨S16x256x128x4, .f32⟩
  | 74 => ⟨S_, .f32⟩
  | 75 => ⟨S16x256x128, .f32⟩
  | 76 => ⟨S_, .f32⟩
  | 77 => ⟨S16x256x128, .f32⟩
  | 78 => ⟨S16x256x128, .f32⟩
  | 79 => ⟨S_, .i32⟩
  | 80 => ⟨S_, .i32⟩
  | 81 => ⟨S16, .i32⟩
  | 82 => ⟨S16, .i32⟩
  | 83 => ⟨S16, .i32⟩
  | 84 => ⟨S_, .i32⟩
  | 85 => ⟨S16, .i32⟩
  | 86 => ⟨S16, .i1⟩
  | 87 => ⟨S16, .i32⟩
  | 88 => ⟨S16, .i32⟩
  | 89 => ⟨S_, .i32⟩
  | 90 => ⟨S16, .i32⟩
  | 91 => ⟨S16, .i1⟩
  | 92 => ⟨S16, .i1⟩
  | 93 => ⟨S_, .i32⟩
  | 94 => ⟨S16, .i32⟩
  | 95 => ⟨S16, .i32⟩
  | 96 => ⟨S16, .i32⟩
  | 97 => ⟨S128, .i32⟩
  | 98 => ⟨S1x128, .i32⟩
  | 99 => ⟨S16x1, .i32⟩
  | 100 => ⟨S16x128, .i32⟩
  | 101 => ⟨S16x128, .i32⟩
  | 102 => ⟨S16x128, .i1⟩
  | 103 => ⟨S16x128x256, .f32⟩
  | 104 => ⟨S2048x256, .f32⟩
  | 105 => ⟨S2048x256, .f32⟩
  | 106 => ⟨S_, .f32⟩
  | 107 => ⟨S2048, .f32⟩
  | 108 => ⟨S2048x1, .f32⟩
  | 109 => ⟨S256x8192, .f32⟩
  | 110 => ⟨S2048x8192, .f32⟩
  | 111 => ⟨S_, .f32⟩
  | 112 => ⟨S2048x8192, .f32⟩
  | 113 => ⟨S2048x8192, .f32⟩
  | 114 => ⟨S2048x8192, .f32⟩
  | 115 => ⟨S2048x8192, .f32⟩
  | 116 => ⟨S1x8192, .f32⟩
  | 117 => ⟨S2048x8192, .f32⟩
  | 118 => ⟨S2048x8192, .f32⟩
  | 119 => ⟨S2048x8192, .f32⟩
  | 120 => ⟨S2048x8192, .i32⟩
  | 121 => ⟨S_, .f32⟩
  | 122 => ⟨S_, .i32⟩
  | 123 => ⟨S2048, .f32⟩
  | 124 => ⟨S2048, .i32⟩
  | 125 => ⟨S_, .i32⟩
  | 126 => ⟨S2048, .i32⟩
  | 127 => ⟨S2048, .i1⟩
  | _ => ⟨S16x256x512, .f32⟩

abbrev hbmTy0_3 (i : Nat) : BufTy := match i % 128 with
  | 0 => ⟨S_, .i32⟩
  | 1 => ⟨S2048, .i32⟩
  | 2 => ⟨S2048, .i32⟩
  | 3 => ⟨S2048, .i32⟩
  | 4 => ⟨S2048x1, .i32⟩
  | 5 => ⟨S1, .i32⟩
  | 6 => ⟨S_, .i32⟩
  | 7 => ⟨S2048x1, .i32⟩
  | 8 => ⟨S2048x1, .i1⟩
  | 9 => ⟨S1x1, .i32⟩
  | 10 => ⟨S2048x1, .i32⟩
  | 11 => ⟨S2048x1, .i1⟩
  | 12 => ⟨S2048x1, .i1⟩
  | 13 => ⟨S_, .i1⟩
  | 14 => ⟨S2048, .i1⟩
  | 15 => ⟨S2048x256, .f32⟩
  | 16 => ⟨S2048x256, .i1⟩
  | 17 => ⟨S_, .f32⟩
  | 18 => ⟨S2048x256, .f32⟩
  | 19 => ⟨S2048x256, .f32⟩
  | 20 => ⟨S2048, .i1⟩
  | 21 => ⟨S2048x1, .i1⟩
  | 22 => ⟨S_, .f32⟩
  | 23 => ⟨S_, .f32⟩
  | 24 => ⟨S2048x256, .i1⟩
  | 25 => ⟨S2048x256, .f32⟩
  | 26 => ⟨S2048x256, .f32⟩
  | 27 => ⟨S16x128x256, .f32⟩
  | 28 => ⟨S16x256x128, .f32⟩
  | 29 => ⟨S512, .f32⟩
  | 30 => ⟨S_, .f32⟩
  | 31 => ⟨S512, .f32⟩
  | 32 => ⟨S512, .f32⟩
  | 33 => ⟨S_, .f32⟩
  | 34 => ⟨S512, .f32⟩
  | 35 => ⟨S512, .f32⟩
  | 36 => ⟨S_, .f32⟩
  | 37 => ⟨S512, .f32⟩
  | 38 => ⟨S512, .f32⟩
  | 39 => ⟨S_, .f32⟩
  | 40 => ⟨S_, .i32⟩
  | 41 => ⟨S_, .f32⟩
  | 42 => ⟨S512, .f32⟩
  | 43 => ⟨S512, .f32⟩
  | 44 => ⟨S_, .f32⟩
  | 45 => ⟨S512, .f32⟩
  | 46 => ⟨S512, .f32⟩
  | 47 => ⟨S512, .f32⟩
  | 48 => ⟨S512, .i32⟩
  | 49 => ⟨S_, .i32⟩
  | 50 => ⟨S512, .i32⟩
  | 51 => ⟨S512, .i32⟩
  | 52 => ⟨S_, .i32⟩
  | 53 => ⟨S512, .i32⟩
  | 54 => ⟨S512, .i32⟩
  | 55 => ⟨S512, .f32⟩
  | 56 => ⟨S512, .f32⟩
  | 57 => ⟨S_, .i32⟩
  | 58 => ⟨S512, .i32⟩
  | 59 => ⟨S512, .i1⟩
  | 60 => ⟨S_, .i32⟩
  | 61 => ⟨S512, .i32⟩
  | 62 => ⟨S512, .i32⟩
  | 63 => ⟨S512, .i32⟩
  | 64 => ⟨S512x1, .i32⟩
  | 65 => ⟨S16x256x512, .f32⟩
  | 66 => ⟨S_, .f32⟩
  | 67 => ⟨S512, .f32⟩
  | 68 => ⟨S512, .f32⟩
  | 69 => ⟨S1x1x512, .f32⟩
  | 70 => ⟨S16x256x512, .f32⟩
  | 71 => ⟨S16x256x512, .f32⟩
  | 72 => ⟨S_, .i32⟩
  | 73 => ⟨S512, .i32⟩
  | 74 => ⟨S512, .i1⟩
  | 75 => ⟨S_, .i32⟩
  | 76 => ⟨S512, .i32⟩
  | 77 => ⟨S512, .i32⟩
  | 78 => ⟨S512, .i32⟩
  | 79 => ⟨S512x1, .i32⟩
  | 80 => ⟨S16x256x512, .f32⟩
  | 81 => ⟨S1x1x512, .f32⟩
  | 82 => ⟨S16x256x512, .f32⟩
  | 83 => ⟨S16x256x512, .f32⟩
  | 84 => ⟨S16x256x512, .f32⟩
  | 85 => ⟨S16x256x512, .f32⟩
  | 86 => ⟨S16x256x512, .f32⟩
  | 87 => ⟨S16x256x512, .f32⟩
  | 88 => ⟨S16x256x512, .f32⟩
  | 89 => ⟨S16x1x512, .f32⟩
  | 90 => ⟨S_, .f32⟩
  | 91 => ⟨S_, .f32⟩
  | 92 => ⟨S_, .f32⟩
  | 93 => ⟨S_, .f32⟩
  | 94 => ⟨S16x256x512, .f32⟩
  | 95 => ⟨S16x256x512, .f32⟩
  | 96 => ⟨S_, .f32⟩
  | 97 => ⟨S_, .f32⟩
  | 98 => ⟨S_, .f32⟩
  | 99 => ⟨S_, .f32⟩
  | 100 => ⟨S16x1x512, .f32⟩
  | 101 => ⟨S16x256x512, .f32⟩
  | 102 => ⟨S16x256x512, .f32⟩
  | 103 => ⟨S16x256x64x8, .f32⟩
  | 104 => ⟨S_, .f32⟩
  | 105 => ⟨S16x256x64, .f32⟩
  | 106 => ⟨S_, .f32⟩
  | 107 => ⟨S16x256x64, .f32⟩
  | 108 => ⟨S16x256x64, .f32⟩
  | 109 => ⟨S_, .i32⟩
  | 110 => ⟨S_, .i32⟩
  | 111 => ⟨S16, .i32⟩
  | 112 => ⟨S16, .i32⟩
  | 113 => ⟨S16, .i32⟩
  | 114 => ⟨S_, .i32⟩
  | 115 => ⟨S16, .i32⟩
  | 116 => ⟨S16, .i1⟩
  | 117 => ⟨S16, .i32⟩
  | 118 => ⟨S16, .i32⟩
  | 119 => ⟨S_, .i32⟩
  | 120 => ⟨S16, .i32⟩
  | 121 => ⟨S16, .i1⟩
  | 122 => ⟨S16, .i1⟩
  | 123 => ⟨S_, .i32⟩
  | 124 => ⟨S16, .i32⟩
  | 125 => ⟨S16, .i32⟩
  | 126 => ⟨S16, .i32⟩
  | 127 => ⟨S64, .i32⟩
  | _ => ⟨S16x256x512, .f32⟩

abbrev hbmTy0_4 (i : Nat) : BufTy := match i % 128 with
  | 0 => ⟨S1x64, .i32⟩
  | 1 => ⟨S16x1, .i32⟩
  | 2 => ⟨S16x64, .i32⟩
  | 3 => ⟨S16x64, .i32⟩
  | 4 => ⟨S16x64, .i1⟩
  | 5 => ⟨S16x64x256, .f32⟩
  | 6 => ⟨S1024x256, .f32⟩
  | 7 => ⟨S1024x256, .f32⟩
  | 8 => ⟨S_, .f32⟩
  | 9 => ⟨S1024, .f32⟩
  | 10 => ⟨S1024x1, .f32⟩
  | 11 => ⟨S256x8192, .f32⟩
  | 12 => ⟨S1024x8192, .f32⟩
  | 13 => ⟨S_, .f32⟩
  | 14 => ⟨S1024x8192, .f32⟩
  | 15 => ⟨S1024x8192, .f32⟩
  | 16 => ⟨S1024x8192, .f32⟩
  | 17 => ⟨S1024x8192, .f32⟩
  | 18 => ⟨S1x8192, .f32⟩
  | 19 => ⟨S1024x8192, .f32⟩
  | 20 => ⟨S1024x8192, .f32⟩
  | 21 => ⟨S1024x8192, .f32⟩
  | 22 => ⟨S1024x8192, .i32⟩
  | 23 => ⟨S_, .f32⟩
  | 24 => ⟨S_, .i32⟩
  | 25 => ⟨S1024, .f32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S1, .i32⟩
  | 36 => ⟨S_, .i32⟩
  | 37 => ⟨S1024x1, .i32⟩
  | 38 => ⟨S1024x1, .i1⟩
  | 39 => ⟨S1x1, .i32⟩
  | 40 => ⟨S1024x1, .i32⟩
  | 41 => ⟨S1024x1, .i1⟩
  | 42 => ⟨S1024x1, .i1⟩
  | 43 => ⟨S_, .i1⟩
  | 44 => ⟨S1024, .i1⟩
  | 45 => ⟨S1024x256, .f32⟩
  | 46 => ⟨S1024x256, .i1⟩
  | 47 => ⟨S_, .f32⟩
  | 48 => ⟨S1024x256, .f32⟩
  | 49 => ⟨S1024x256, .f32⟩
  | 50 => ⟨S1024, .i1⟩
  | 51 => ⟨S1024x1, .i1⟩
  | 52 => ⟨S_, .f32⟩
  | 53 => ⟨S_, .f32⟩
  | 54 => ⟨S1024x256, .i1⟩
  | 55 => ⟨S1024x256, .f32⟩
  | 56 => ⟨S1024x256, .f32⟩
  | 57 => ⟨S16x64x256, .f32⟩
  | 58 => ⟨S16x256x64, .f32⟩
  | 59 => ⟨S512, .f32⟩
  | 60 => ⟨S_, .f32⟩
  | 61 => ⟨S512, .f32⟩
  | 62 => ⟨S512, .f32⟩
  | 63 => ⟨S_, .f32⟩
  | 64 => ⟨S512, .f32⟩
  | 65 => ⟨S512, .f32⟩
  | 66 => ⟨S_, .f32⟩
  | 67 => ⟨S512, .f32⟩
  | 68 => ⟨S512, .f32⟩
  | 69 => ⟨S_, .f32⟩
  | 70 => ⟨S_, .i32⟩
  | 71 => ⟨S_, .f32⟩
  | 72 => ⟨S512, .f32⟩
  | 73 => ⟨S512, .f32⟩
  | 74 => ⟨S_, .f32⟩
  | 75 => ⟨S512, .f32⟩
  | 76 => ⟨S512, .f32⟩
  | 77 => ⟨S512, .f32⟩
  | 78 => ⟨S512, .i32⟩
  | 79 => ⟨S_, .i32⟩
  | 80 => ⟨S512, .i32⟩
  | 81 => ⟨S512, .i32⟩
  | 82 => ⟨S_, .i32⟩
  | 83 => ⟨S512, .i32⟩
  | 84 => ⟨S512, .i32⟩
  | 85 => ⟨S512, .f32⟩
  | 86 => ⟨S512, .f32⟩
  | 87 => ⟨S_, .i32⟩
  | 88 => ⟨S512, .i32⟩
  | 89 => ⟨S512, .i1⟩
  | 90 => ⟨S_, .i32⟩
  | 91 => ⟨S512, .i32⟩
  | 92 => ⟨S512, .i32⟩
  | 93 => ⟨S512, .i32⟩
  | 94 => ⟨S512x1, .i32⟩
  | 95 => ⟨S16x256x512, .f32⟩
  | 96 => ⟨S_, .f32⟩
  | 97 => ⟨S512, .f32⟩
  | 98 => ⟨S512, .f32⟩
  | 99 => ⟨S1x1x512, .f32⟩
  | 100 => ⟨S16x256x512, .f32⟩
  | 101 => ⟨S16x256x512, .f32⟩
  | 102 => ⟨S_, .i32⟩
  | 103 => ⟨S512, .i32⟩
  | 104 => ⟨S512, .i1⟩
  | 105 => ⟨S_, .i32⟩
  | 106 => ⟨S512, .i32⟩
  | 107 => ⟨S512, .i32⟩
  | 108 => ⟨S512, .i32⟩
  | 109 => ⟨S512x1, .i32⟩
  | 110 => ⟨S16x256x512, .f32⟩
  | 111 => ⟨S1x1x512, .f32⟩
  | 112 => ⟨S16x256x512, .f32⟩
  | 113 => ⟨S16x256x512, .f32⟩
  | 114 => ⟨S16x256x512, .f32⟩
  | 115 => ⟨S16x256x512, .f32⟩
  | 116 => ⟨S16x256x512, .f32⟩
  | 117 => ⟨S16x256x512, .f32⟩
  | 118 => ⟨S16x256x512, .f32⟩
  | 119 => ⟨S16x1x512, .f32⟩
  | 120 => ⟨S_, .f32⟩
  | 121 => ⟨S_, .f32⟩
  | 122 => ⟨S_, .f32⟩
  | 123 => ⟨S_, .f32⟩
  | 124 => ⟨S16x256x512, .f32⟩
  | 125 => ⟨S16x256x512, .f32⟩
  | 126 => ⟨S_, .f32⟩
  | 127 => ⟨S_, .f32⟩
  | _ => ⟨S16x256x512, .f32⟩

abbrev hbmTy0_5 (i : Nat) : BufTy := match i % 128 with
  | 0 => ⟨S_, .f32⟩
  | 1 => ⟨S_, .f32⟩
  | 2 => ⟨S16x256x512, .f32⟩
  | 3 => ⟨S16x256x512, .f32⟩
  | _ => ⟨S16x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x256x512, .f32⟩

abbrev bufTy : (tb : Table) → Fin (tcTables nBuf tb) → BufTy
  | .hbm, ⟨i, _⟩ => hbmTy i
  | _, _ => ⟨S16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_cst : Ref sig .tc := ⟨.hbm, 60, rfl⟩
abbrev main_call1_c : Ref sig .tc := ⟨.hbm, 61, rfl⟩
abbrev main_call1_v1_0 : Ref sig .tc := ⟨.hbm, 62, rfl⟩
abbrev main_v35 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_3 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_cst_4 : Ref sig .tc := ⟨.hbm, 97, rfl⟩
abbrev main_v43 : Ref sig .tc := ⟨.hbm, 98, rfl⟩
abbrev main_v44 : Ref sig .tc := ⟨.hbm, 99, rfl⟩
abbrev main_cst_5 : Ref sig .tc := ⟨.hbm, 100, rfl⟩
abbrev main_v45 : Ref sig .tc := ⟨.hbm, 101, rfl⟩
abbrev main_v46 : Ref sig .tc := ⟨.hbm, 102, rfl⟩
abbrev main_cst_6 : Ref sig .tc := ⟨.hbm, 103, rfl⟩
abbrev main_v47 : Ref sig .tc := ⟨.hbm, 104, rfl⟩
abbrev main_v48 : Ref sig .tc := ⟨.hbm, 105, rfl⟩
abbrev main_cst_7 : Ref sig .tc := ⟨.hbm, 106, rfl⟩
abbrev main_c_8 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_c_9 : Ref sig .tc := ⟨.hbm, 116, rfl⟩
abbrev main_v52 : Ref sig .tc := ⟨.hbm, 117, rfl⟩
abbrev main_v53 : Ref sig .tc := ⟨.hbm, 118, rfl⟩
abbrev main_c_10 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_c_11 : Ref sig .tc := ⟨.hbm, 124, rfl⟩
abbrev main_v58 : Ref sig .tc := ⟨.hbm, 125, rfl⟩
abbrev main_v59 : Ref sig .tc := ⟨.hbm, 126, rfl⟩
abbrev main_c_12 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_cst_13 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_c_14 : Ref sig .tc := ⟨.hbm, 139, rfl⟩
abbrev main_v70 : Ref sig .tc := ⟨.hbm, 140, rfl⟩
abbrev main_v71 : Ref sig .tc := ⟨.hbm, 141, rfl⟩
abbrev main_c_15 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_cst_16 : Ref sig .tc := ⟨.hbm, 157, rfl⟩
abbrev main_v86 : Ref sig .tc := ⟨.hbm, 158, rfl⟩
abbrev main_cst_17 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_cst_18 : Ref sig .tc := ⟨.hbm, 163, rfl⟩
abbrev main_v90 : Ref sig .tc := ⟨.hbm, 164, rfl⟩
abbrev main_v91 : Ref sig .tc := ⟨.hbm, 165, rfl⟩
abbrev main_cst_19 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_cst_20 : Ref sig .tc := ⟨.hbm, 172, rfl⟩
abbrev main_v97 : Ref sig .tc := ⟨.hbm, 173, rfl⟩
abbrev main_cst_21 : Ref sig .tc := ⟨.hbm, 174, rfl⟩
abbrev main_v98 : Ref sig .tc := ⟨.hbm, 175, rfl⟩
abbrev main_v99 : Ref sig .tc := ⟨.hbm, 176, rfl⟩
abbrev main_c_22 : Ref sig .tc := ⟨.hbm, 177, rfl⟩
abbrev main_call5_v0 : Ref sig .tc := ⟨.hbm, 178, rfl⟩
abbrev main_call5_v1 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_v6 : Ref sig .tc := ⟨.hbm, 184, rfl⟩
abbrev main_call5_v7 : Ref sig .tc := ⟨.hbm, 185, rfl⟩
abbrev main_call5_v8 : Ref sig .tc := ⟨.hbm, 186, rfl⟩
abbrev main_call5_c : Ref sig .tc := ⟨.hbm, 187, rfl⟩
abbrev main_call5_v9 : Ref sig .tc := ⟨.hbm, 188, rfl⟩
abbrev main_call5_v10 : Ref sig .tc := ⟨.hbm, 189, rfl⟩
abbrev main_call5_v11 : Ref sig .tc := ⟨.hbm, 190, rfl⟩
abbrev main_call5_c_0 : Ref sig .tc := ⟨.hbm, 191, rfl⟩
abbrev main_call5_v12 : Ref sig .tc := ⟨.hbm, 192, rfl⟩
abbrev main_call5_v13 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_cst_23 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_cst_24 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_call6_v0 : Ref sig .tc := ⟨.hbm, 218, rfl⟩
abbrev main_call6_cst : Ref sig .tc := ⟨.hbm, 219, rfl⟩
abbrev main_call6_c : Ref sig .tc := ⟨.hbm, 220, rfl⟩
abbrev main_call6_v1_0 : Ref sig .tc := ⟨.hbm, 221, rfl⟩
abbrev main_v122 : Ref sig .tc := ⟨.hbm, 222, rfl⟩
abbrev main_call7_c : Ref sig .tc := ⟨.hbm, 223, rfl⟩
abbrev main_call7_v0 : Ref sig .tc := ⟨.hbm, 224, rfl⟩
abbrev main_call7_v1 : Ref sig .tc := ⟨.hbm, 225, rfl⟩
abbrev main_call7_c_0 : Ref sig .tc := ⟨.hbm, 226, rfl⟩
abbrev main_call7_v2 : Ref sig .tc := ⟨.hbm, 227, rfl⟩
abbrev main_call7_v3 : Ref sig .tc := ⟨.hbm, 228, rfl⟩
abbrev main_call7_v4 : Ref sig .tc := ⟨.hbm, 229, rfl⟩
abbrev main_call7_v5 : Ref sig .tc := ⟨.hbm, 230, rfl⟩
abbrev main_call7_c_1 : Ref sig .tc := ⟨.hbm, 231, rfl⟩
abbrev main_call7_c_2 : Ref sig .tc := ⟨.hbm, 232, rfl⟩
abbrev main_call7_v6 : Ref sig .tc := ⟨.hbm, 233, rfl⟩
abbrev main_call7_v7 : Ref sig .tc := ⟨.hbm, 234, rfl⟩
abbrev main_call7_v8 : Ref sig .tc := ⟨.hbm, 235, rfl⟩
abbrev main_call7_v9 : Ref sig .tc := ⟨.hbm, 236, rfl⟩
abbrev main_call7_v10 : Ref sig .tc := ⟨.hbm, 237, rfl⟩
abbrev main_call7_v11 : Ref sig .tc := ⟨.hbm, 238, rfl⟩
abbrev main_call7_c_3 : Ref sig .tc := ⟨.hbm, 239, rfl⟩
abbrev main_call7_v12 : Ref sig .tc := ⟨.hbm, 240, rfl⟩
abbrev main_call7_v13 : Ref sig .tc := ⟨.hbm, 241, rfl⟩
abbrev main_call7_v14 : Ref sig .tc := ⟨.hbm, 242, rfl⟩
abbrev main_call7_cst : Ref sig .tc := ⟨.hbm, 243, rfl⟩
abbrev main_call7_v15 : Ref sig .tc := ⟨.hbm, 244, rfl⟩
abbrev main_v123 : Ref sig .tc := ⟨.hbm, 245, rfl⟩
abbrev main_v124 : Ref sig .tc := ⟨.hbm, 246, rfl⟩
abbrev main_v125 : Ref sig .tc := ⟨.hbm, 247, rfl⟩
abbrev main_cst_25 : Ref sig .tc := ⟨.hbm, 248, rfl⟩
abbrev main_call8_v0 : Ref sig .tc := ⟨.hbm, 249, rfl⟩
abbrev main_call8_v1 : Ref sig .tc := ⟨.hbm, 250, rfl⟩
abbrev main_call8_v2 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_cst_26 : Ref sig .tc := ⟨.hbm, 256, rfl⟩
abbrev main_v130 : Ref sig .tc := ⟨.hbm, 257, rfl⟩
abbrev main_v131 : Ref sig .tc := ⟨.hbm, 258, rfl⟩
abbrev main_cst_27 : Ref sig .tc := ⟨.hbm, 259, rfl⟩
abbrev main_v132 : Ref sig .tc := ⟨.hbm, 260, rfl⟩
abbrev main_v133 : Ref sig .tc := ⟨.hbm, 261, rfl⟩
abbrev main_cst_28 : Ref sig .tc := ⟨.hbm, 262, rfl⟩
abbrev main_v134 : Ref sig .tc := ⟨.hbm, 263, rfl⟩
abbrev main_v135 : Ref sig .tc := ⟨.hbm, 264, rfl⟩
abbrev main_cst_29 : Ref sig .tc := ⟨.hbm, 265, rfl⟩
abbrev main_c_30 : Ref sig .tc := ⟨.hbm, 266, rfl⟩
abbrev main_call9_v0 : Ref sig .tc := ⟨.hbm, 267, rfl⟩
abbrev main_call9_v1 : Ref sig .tc := ⟨.hbm, 268, rfl⟩
abbrev main_call9_v2 : Ref sig .tc := ⟨.hbm, 269, rfl⟩
abbrev main_call9_v3 : Ref sig .tc := ⟨.hbm, 270, rfl⟩
abbrev main_call9_v4 : Ref sig .tc := ⟨.hbm, 271, rfl⟩
abbrev main_v136 : Ref sig .tc := ⟨.hbm, 272, rfl⟩
abbrev main_v137 : Ref sig .tc := ⟨.hbm, 273, rfl⟩
abbrev main_v138 : Ref sig .tc := ⟨.hbm, 274, rfl⟩
abbrev main_c_31 : Ref sig .tc := ⟨.hbm, 275, rfl⟩
abbrev main_v139 : Ref sig .tc := ⟨.hbm, 276, rfl⟩
abbrev main_v140 : Ref sig .tc := ⟨.hbm, 277, rfl⟩
abbrev main_c_32 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_c_33 : Ref sig .tc := ⟨.hbm, 283, rfl⟩
abbrev main_v145 : Ref sig .tc := ⟨.hbm, 284, rfl⟩
abbrev main_v146 : Ref sig .tc := ⟨.hbm, 285, rfl⟩
abbrev main_c_34 : Ref sig .tc := ⟨.hbm, 286, rfl⟩
abbrev main_v147 : Ref sig .tc := ⟨.hbm, 287, rfl⟩
abbrev main_v148 : Ref sig .tc := ⟨.hbm, 288, rfl⟩
abbrev main_v149 : Ref sig .tc := ⟨.hbm, 289, rfl⟩
abbrev main_v150 : Ref sig .tc := ⟨.hbm, 290, rfl⟩
abbrev main_v151 : Ref sig .tc := ⟨.hbm, 291, rfl⟩
abbrev main_cst_35 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_v156 : Ref sig .tc := ⟨.hbm, 297, rfl⟩
abbrev main_c_36 : Ref sig .tc := ⟨.hbm, 298, rfl⟩
abbrev main_v157 : Ref sig .tc := ⟨.hbm, 299, rfl⟩
abbrev main_v158 : Ref sig .tc := ⟨.hbm, 300, rfl⟩
abbrev main_c_37 : Ref sig .tc := ⟨.hbm, 301, rfl⟩
abbrev main_v159 : Ref sig .tc := ⟨.hbm, 302, rfl⟩
abbrev main_v160 : Ref sig .tc := ⟨.hbm, 303, rfl⟩
abbrev main_v161 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_cst_38 : Ref sig .tc := ⟨.hbm, 316, rfl⟩
abbrev main_v173 : Ref sig .tc := ⟨.hbm, 317, rfl⟩
abbrev main_cst_39 : Ref sig .tc := ⟨.hbm, 318, rfl⟩
abbrev main_v174 : Ref sig .tc := ⟨.hbm, 319, rfl⟩
abbrev main_v175 : Ref sig .tc := ⟨.hbm, 320, rfl⟩
abbrev main_v176 : Ref sig .tc := ⟨.hbm, 321, rfl⟩
abbrev main_cst_40 : Ref sig .tc := ⟨.hbm, 322, rfl⟩
abbrev main_v177 : Ref sig .tc := ⟨.hbm, 323, rfl⟩
abbrev main_v178 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_cst_41 : Ref sig .tc := ⟨.hbm, 330, rfl⟩
abbrev main_v184 : Ref sig .tc := ⟨.hbm, 331, rfl⟩
abbrev main_cst_42 : Ref sig .tc := ⟨.hbm, 332, rfl⟩
abbrev main_v185 : Ref sig .tc := ⟨.hbm, 333, rfl⟩
abbrev main_v186 : Ref sig .tc := ⟨.hbm, 334, rfl⟩
abbrev main_c_43 : Ref sig .tc := ⟨.hbm, 335, rfl⟩
abbrev main_call10_v0 : Ref sig .tc := ⟨.hbm, 336, rfl⟩
abbrev main_call10_v1 : Ref sig .tc := ⟨.hbm, 337, rfl⟩
abbrev main_call10_v2 : Ref sig .tc := ⟨.hbm, 338, rfl⟩
abbrev main_call10_v3 : Ref sig .tc := ⟨.hbm, 339, rfl⟩
abbrev main_call10_v4 : Ref sig .tc := ⟨.hbm, 340, rfl⟩
abbrev main_call10_v5 : Ref sig .tc := ⟨.hbm, 341, rfl⟩
abbrev main_call10_v6 : Ref sig .tc := ⟨.hbm, 342, rfl⟩
abbrev main_call10_v7 : Ref sig .tc := ⟨.hbm, 343, rfl⟩
abbrev main_call10_v8 : Ref sig .tc := ⟨.hbm, 344, rfl⟩
abbrev main_call10_c : Ref sig .tc := ⟨.hbm, 345, rfl⟩
abbrev main_call10_v9 : Ref sig .tc := ⟨.hbm, 346, rfl⟩
abbrev main_call10_v10 : Ref sig .tc := ⟨.hbm, 347, rfl⟩
abbrev main_call10_v11 : Ref sig .tc := ⟨.hbm, 348, rfl⟩
abbrev main_call10_c_0 : Ref sig .tc := ⟨.hbm, 349, rfl⟩
abbrev main_call10_v12 : Ref sig .tc := ⟨.hbm, 350, rfl⟩
abbrev main_call10_v13 : Ref sig .tc := ⟨.hbm, 351, rfl⟩
abbrev main_v187 : Ref sig .tc := ⟨.hbm, 352, rfl⟩
abbrev main_v188 : Ref sig .tc := ⟨.hbm, 353, rfl⟩
abbrev main_v189 : Ref sig .tc := ⟨.hbm, 354, rfl⟩
abbrev main_v190 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_cst_44 : Ref sig .tc := ⟨.hbm, 362, rfl⟩
abbrev main_v197 : Ref sig .tc := ⟨.hbm, 363, rfl⟩
abbrev main_v198 : Ref sig .tc := ⟨.hbm, 364, rfl⟩
abbrev main_v199 : Ref sig .tc := ⟨.hbm, 365, rfl⟩
abbrev main_v200 : Ref sig .tc := ⟨.hbm, 366, rfl⟩
abbrev main_cst_45 : Ref sig .tc := ⟨.hbm, 367, rfl⟩
abbrev main_v201 : Ref sig .tc := ⟨.hbm, 368, rfl⟩
abbrev main_v202 : Ref sig .tc := ⟨.hbm, 369, rfl⟩
abbrev main_v203 : Ref sig .tc := ⟨.hbm, 370, rfl⟩
abbrev main_v204 : Ref sig .tc := ⟨.hbm, 371, rfl⟩
abbrev main_v205 : Ref sig .tc := ⟨.hbm, 372, rfl⟩
abbrev main_v206 : Ref sig .tc := ⟨.hbm, 373, rfl⟩
abbrev main_v207 : Ref sig .tc := ⟨.hbm, 374, rfl⟩
abbrev main_v208 : Ref sig .tc := ⟨.hbm, 375, rfl⟩
abbrev main_call11_v0 : Ref sig .tc := ⟨.hbm, 376, rfl⟩
abbrev main_call11_cst : Ref sig .tc := ⟨.hbm, 377, rfl⟩
abbrev main_call11_c : Ref sig .tc := ⟨.hbm, 378, rfl⟩
abbrev main_call11_v1_0 : Ref sig .tc := ⟨.hbm, 379, rfl⟩
abbrev main_v209 : Ref sig .tc := ⟨.hbm, 380, rfl⟩
abbrev main_call12_c : Ref sig .tc := ⟨.hbm, 381, rfl⟩
abbrev main_call12_v0 : Ref sig .tc := ⟨.hbm, 382, rfl⟩
abbrev main_call12_v1 : Ref sig .tc := ⟨.hbm, 383, rfl⟩
abbrev main_call12_c_0 : Ref sig .tc := ⟨.hbm, 384, rfl⟩
abbrev main_call12_v2 : Ref sig .tc := ⟨.hbm, 385, rfl⟩
abbrev main_call12_v3 : Ref sig .tc := ⟨.hbm, 386, rfl⟩
abbrev main_call12_v4 : Ref sig .tc := ⟨.hbm, 387, rfl⟩
abbrev main_call12_v5 : Ref sig .tc := ⟨.hbm, 388, rfl⟩
abbrev main_call12_c_1 : Ref sig .tc := ⟨.hbm, 389, rfl⟩
abbrev main_call12_c_2 : Ref sig .tc := ⟨.hbm, 390, rfl⟩
abbrev main_call12_v6 : Ref sig .tc := ⟨.hbm, 391, rfl⟩
abbrev main_call12_v7 : Ref sig .tc := ⟨.hbm, 392, rfl⟩
abbrev main_call12_v8 : Ref sig .tc := ⟨.hbm, 393, rfl⟩
abbrev main_call12_v9 : Ref sig .tc := ⟨.hbm, 394, rfl⟩
abbrev main_call12_v10 : Ref sig .tc := ⟨.hbm, 395, rfl⟩
abbrev main_call12_v11 : Ref sig .tc := ⟨.hbm, 396, rfl⟩
abbrev main_call12_c_3 : Ref sig .tc := ⟨.hbm, 397, rfl⟩
abbrev main_call12_v12 : Ref sig .tc := ⟨.hbm, 398, rfl⟩
abbrev main_call12_v13 : Ref sig .tc := ⟨.hbm, 399, rfl⟩
abbrev main_call12_v14 : Ref sig .tc := ⟨.hbm, 400, rfl⟩
abbrev main_call12_cst : Ref sig .tc := ⟨.hbm, 401, rfl⟩
abbrev main_call12_v15 : Ref sig .tc := ⟨.hbm, 402, rfl⟩
abbrev main_v210 : Ref sig .tc := ⟨.hbm, 403, rfl⟩
abbrev main_v211 : Ref sig .tc := ⟨.hbm, 404, rfl⟩
abbrev main_v212 : Ref sig .tc := ⟨.hbm, 405, rfl⟩
abbrev main_cst_46 : Ref sig .tc := ⟨.hbm, 406, rfl⟩
abbrev main_call13_v0 : Ref sig .tc := ⟨.hbm, 407, rfl⟩
abbrev main_call13_v1 : Ref sig .tc := ⟨.hbm, 408, rfl⟩
abbrev main_call13_v2 : Ref sig .tc := ⟨.hbm, 409, rfl⟩
abbrev main_v213 : Ref sig .tc := ⟨.hbm, 410, rfl⟩
abbrev main_v214 : Ref sig .tc := ⟨.hbm, 411, rfl⟩
abbrev main_v215 : Ref sig .tc := ⟨.hbm, 412, rfl⟩
abbrev main_v216 : Ref sig .tc := ⟨.hbm, 413, rfl⟩
abbrev main_cst_47 : Ref sig .tc := ⟨.hbm, 414, rfl⟩
abbrev main_v217 : Ref sig .tc := ⟨.hbm, 415, rfl⟩
abbrev main_v218 : Ref sig .tc := ⟨.hbm, 416, rfl⟩
abbrev main_cst_48 : Ref sig .tc := ⟨.hbm, 417, rfl⟩
abbrev main_v219 : Ref sig .tc := ⟨.hbm, 418, rfl⟩
abbrev main_v220 : Ref sig .tc := ⟨.hbm, 419, rfl⟩
abbrev main_cst_49 : Ref sig .tc := ⟨.hbm, 420, rfl⟩
abbrev main_v221 : Ref sig .tc := ⟨.hbm, 421, rfl⟩
abbrev main_v222 : Ref sig .tc := ⟨.hbm, 422, rfl⟩
abbrev main_cst_50 : Ref sig .tc := ⟨.hbm, 423, rfl⟩
abbrev main_c_51 : Ref sig .tc := ⟨.hbm, 424, rfl⟩
abbrev main_call14_v0 : Ref sig .tc := ⟨.hbm, 425, rfl⟩
abbrev main_call14_v1 : Ref sig .tc := ⟨.hbm, 426, rfl⟩
abbrev main_call14_v2 : Ref sig .tc := ⟨.hbm, 427, rfl⟩
abbrev main_call14_v3 : Ref sig .tc := ⟨.hbm, 428, rfl⟩
abbrev main_call14_v4 : Ref sig .tc := ⟨.hbm, 429, rfl⟩
abbrev main_v223 : Ref sig .tc := ⟨.hbm, 430, rfl⟩
abbrev main_v224 : Ref sig .tc := ⟨.hbm, 431, rfl⟩
abbrev main_v225 : Ref sig .tc := ⟨.hbm, 432, rfl⟩
abbrev main_c_52 : Ref sig .tc := ⟨.hbm, 433, rfl⟩
abbrev main_v226 : Ref sig .tc := ⟨.hbm, 434, rfl⟩
abbrev main_v227 : Ref sig .tc := ⟨.hbm, 435, rfl⟩
abbrev main_c_53 : Ref sig .tc := ⟨.hbm, 436, rfl⟩
abbrev main_v228 : Ref sig .tc := ⟨.hbm, 437, rfl⟩
abbrev main_v229 : Ref sig .tc := ⟨.hbm, 438, rfl⟩
abbrev main_v230 : Ref sig .tc := ⟨.hbm, 439, rfl⟩
abbrev main_v231 : Ref sig .tc := ⟨.hbm, 440, rfl⟩
abbrev main_c_54 : Ref sig .tc := ⟨.hbm, 441, rfl⟩
abbrev main_v232 : Ref sig .tc := ⟨.hbm, 442, rfl⟩
abbrev main_v233 : Ref sig .tc := ⟨.hbm, 443, rfl⟩
abbrev main_c_55 : Ref sig .tc := ⟨.hbm, 444, rfl⟩
abbrev main_v234 : Ref sig .tc := ⟨.hbm, 445, rfl⟩
abbrev main_v235 : Ref sig .tc := ⟨.hbm, 446, rfl⟩
abbrev main_v236 : Ref sig .tc := ⟨.hbm, 447, rfl⟩
abbrev main_v237 : Ref sig .tc := ⟨.hbm, 448, rfl⟩
abbrev main_v238 : Ref sig .tc := ⟨.hbm, 449, rfl⟩
abbrev main_cst_56 : Ref sig .tc := ⟨.hbm, 450, rfl⟩
abbrev main_v239 : Ref sig .tc := ⟨.hbm, 451, rfl⟩
abbrev main_v240 : Ref sig .tc := ⟨.hbm, 452, rfl⟩
abbrev main_v241 : Ref sig .tc := ⟨.hbm, 453, rfl⟩
abbrev main_v242 : Ref sig .tc := ⟨.hbm, 454, rfl⟩
abbrev main_v243 : Ref sig .tc := ⟨.hbm, 455, rfl⟩
abbrev main_c_57 : Ref sig .tc := ⟨.hbm, 456, rfl⟩
abbrev main_v244 : Ref sig .tc := ⟨.hbm, 457, rfl⟩
abbrev main_v245 : Ref sig .tc := ⟨.hbm, 458, rfl⟩
abbrev main_c_58 : Ref sig .tc := ⟨.hbm, 459, rfl⟩
abbrev main_v246 : Ref sig .tc := ⟨.hbm, 460, rfl⟩
abbrev main_v247 : Ref sig .tc := ⟨.hbm, 461, rfl⟩
abbrev main_v248 : Ref sig .tc := ⟨.hbm, 462, rfl⟩
abbrev main_v249 : Ref sig .tc := ⟨.hbm, 463, rfl⟩
abbrev main_v250 : Ref sig .tc := ⟨.hbm, 464, rfl⟩
abbrev main_v251 : Ref sig .tc := ⟨.hbm, 465, rfl⟩
abbrev main_v252 : Ref sig .tc := ⟨.hbm, 466, rfl⟩
abbrev main_v253 : Ref sig .tc := ⟨.hbm, 467, rfl⟩
abbrev main_v254 : Ref sig .tc := ⟨.hbm, 468, rfl⟩
abbrev main_v255 : Ref sig .tc := ⟨.hbm, 469, rfl⟩
abbrev main_v256 : Ref sig .tc := ⟨.hbm, 470, rfl⟩
abbrev main_v257 : Ref sig .tc := ⟨.hbm, 471, rfl⟩
abbrev main_v258 : Ref sig .tc := ⟨.hbm, 472, rfl⟩
abbrev main_v259 : Ref sig .tc := ⟨.hbm, 473, rfl⟩
abbrev main_cst_59 : Ref sig .tc := ⟨.hbm, 474, rfl⟩
abbrev main_v260 : Ref sig .tc := ⟨.hbm, 475, rfl⟩
abbrev main_cst_60 : Ref sig .tc := ⟨.hbm, 476, rfl⟩
abbrev main_v261 : Ref sig .tc := ⟨.hbm, 477, rfl⟩
abbrev main_v262 : Ref sig .tc := ⟨.hbm, 478, rfl⟩
abbrev main_v263 : Ref sig .tc := ⟨.hbm, 479, rfl⟩
abbrev main_cst_61 : Ref sig .tc := ⟨.hbm, 480, rfl⟩
abbrev main_v264 : Ref sig .tc := ⟨.hbm, 481, rfl⟩
abbrev main_v265 : Ref sig .tc := ⟨.hbm, 482, rfl⟩
abbrev main_v266 : Ref sig .tc := ⟨.hbm, 483, rfl⟩
abbrev main_v267 : Ref sig .tc := ⟨.hbm, 484, rfl⟩
abbrev main_v268 : Ref sig .tc := ⟨.hbm, 485, rfl⟩
abbrev main_v269 : Ref sig .tc := ⟨.hbm, 486, rfl⟩
abbrev main_v270 : Ref sig .tc := ⟨.hbm, 487, rfl⟩
abbrev main_cst_62 : Ref sig .tc := ⟨.hbm, 488, rfl⟩
abbrev main_v271 : Ref sig .tc := ⟨.hbm, 489, rfl⟩
abbrev main_cst_63 : Ref sig .tc := ⟨.hbm, 490, rfl⟩
abbrev main_v272 : Ref sig .tc := ⟨.hbm, 491, rfl⟩
abbrev main_v273 : Ref sig .tc := ⟨.hbm, 492, rfl⟩
abbrev main_c_64 : Ref sig .tc := ⟨.hbm, 493, rfl⟩
abbrev main_call15_v0 : Ref sig .tc := ⟨.hbm, 494, rfl⟩
abbrev main_call15_v1 : Ref sig .tc := ⟨.hbm, 495, rfl⟩
abbrev main_call15_v2 : Ref sig .tc := ⟨.hbm, 496, rfl⟩
abbrev main_call15_v3 : Ref sig .tc := ⟨.hbm, 497, rfl⟩
abbrev main_call15_v4 : Ref sig .tc := ⟨.hbm, 498, rfl⟩
abbrev main_call15_v5 : Ref sig .tc := ⟨.hbm, 499, rfl⟩
abbrev main_call15_v6 : Ref sig .tc := ⟨.hbm, 500, rfl⟩
abbrev main_call15_v7 : Ref sig .tc := ⟨.hbm, 501, rfl⟩
abbrev main_call15_v8 : Ref sig .tc := ⟨.hbm, 502, rfl⟩
abbrev main_call15_c : Ref sig .tc := ⟨.hbm, 503, rfl⟩
abbrev main_call15_v9 : Ref sig .tc := ⟨.hbm, 504, rfl⟩
abbrev main_call15_v10 : Ref sig .tc := ⟨.hbm, 505, rfl⟩
abbrev main_call15_v11 : Ref sig .tc := ⟨.hbm, 506, rfl⟩
abbrev main_call15_c_0 : Ref sig .tc := ⟨.hbm, 507, rfl⟩
abbrev main_call15_v12 : Ref sig .tc := ⟨.hbm, 508, rfl⟩
abbrev main_call15_v13 : Ref sig .tc := ⟨.hbm, 509, rfl⟩
abbrev main_v274 : Ref sig .tc := ⟨.hbm, 510, rfl⟩
abbrev main_v275 : Ref sig .tc := ⟨.hbm, 511, rfl⟩
abbrev main_v276 : Ref sig .tc := ⟨.hbm, 512, rfl⟩
abbrev main_v277 : Ref sig .tc := ⟨.hbm, 513, rfl⟩
abbrev main_v278 : Ref sig .tc := ⟨.hbm, 514, rfl⟩
abbrev main_v279 : Ref sig .tc := ⟨.hbm, 515, rfl⟩
abbrev main_v280 : Ref sig .tc := ⟨.hbm, 516, rfl⟩
abbrev main_v281 : Ref sig .tc := ⟨.hbm, 517, rfl⟩
abbrev main_v282 : Ref sig .tc := ⟨.hbm, 518, rfl⟩
abbrev main_v283 : Ref sig .tc := ⟨.hbm, 519, rfl⟩
abbrev main_cst_65 : Ref sig .tc := ⟨.hbm, 520, rfl⟩
abbrev main_v284 : Ref sig .tc := ⟨.hbm, 521, rfl⟩
abbrev main_v285 : Ref sig .tc := ⟨.hbm, 522, rfl⟩
abbrev main_v286 : Ref sig .tc := ⟨.hbm, 523, rfl⟩
abbrev main_v287 : Ref sig .tc := ⟨.hbm, 524, rfl⟩
abbrev main_cst_66 : Ref sig .tc := ⟨.hbm, 525, rfl⟩
abbrev main_v288 : Ref sig .tc := ⟨.hbm, 526, rfl⟩
abbrev main_v289 : Ref sig .tc := ⟨.hbm, 527, rfl⟩
abbrev main_v290 : Ref sig .tc := ⟨.hbm, 528, rfl⟩
abbrev main_v291 : Ref sig .tc := ⟨.hbm, 529, rfl⟩
abbrev main_v292 : Ref sig .tc := ⟨.hbm, 530, rfl⟩
abbrev main_v293 : Ref sig .tc := ⟨.hbm, 531, rfl⟩
abbrev main_v294 : Ref sig .tc := ⟨.hbm, 532, rfl⟩
abbrev main_v295 : Ref sig .tc := ⟨.hbm, 533, rfl⟩
abbrev main_call16_v0 : Ref sig .tc := ⟨.hbm, 534, rfl⟩
abbrev main_call16_cst : Ref sig .tc := ⟨.hbm, 535, rfl⟩
abbrev main_call16_c : Ref sig .tc := ⟨.hbm, 536, rfl⟩
abbrev main_call16_v1_0 : Ref sig .tc := ⟨.hbm, 537, rfl⟩
abbrev main_v296 : Ref sig .tc := ⟨.hbm, 538, rfl⟩
abbrev main_call17_c : Ref sig .tc := ⟨.hbm, 539, rfl⟩
abbrev main_call17_v0 : Ref sig .tc := ⟨.hbm, 540, rfl⟩
abbrev main_call17_v1 : Ref sig .tc := ⟨.hbm, 541, rfl⟩
abbrev main_call17_c_0 : Ref sig .tc := ⟨.hbm, 542, rfl⟩
abbrev main_call17_v2 : Ref sig .tc := ⟨.hbm, 543, rfl⟩
abbrev main_call17_v3 : Ref sig .tc := ⟨.hbm, 544, rfl⟩
abbrev main_call17_v4 : Ref sig .tc := ⟨.hbm, 545, rfl⟩
abbrev main_call17_v5 : Ref sig .tc := ⟨.hbm, 546, rfl⟩
abbrev main_call17_c_1 : Ref sig .tc := ⟨.hbm, 547, rfl⟩
abbrev main_call17_c_2 : Ref sig .tc := ⟨.hbm, 548, rfl⟩
abbrev main_call17_v6 : Ref sig .tc := ⟨.hbm, 549, rfl⟩
abbrev main_call17_v7 : Ref sig .tc := ⟨.hbm, 550, rfl⟩
abbrev main_call17_v8 : Ref sig .tc := ⟨.hbm, 551, rfl⟩
abbrev main_call17_v9 : Ref sig .tc := ⟨.hbm, 552, rfl⟩
abbrev main_call17_v10 : Ref sig .tc := ⟨.hbm, 553, rfl⟩
abbrev main_call17_v11 : Ref sig .tc := ⟨.hbm, 554, rfl⟩
abbrev main_call17_c_3 : Ref sig .tc := ⟨.hbm, 555, rfl⟩
abbrev main_call17_v12 : Ref sig .tc := ⟨.hbm, 556, rfl⟩
abbrev main_call17_v13 : Ref sig .tc := ⟨.hbm, 557, rfl⟩
abbrev main_call17_v14 : Ref sig .tc := ⟨.hbm, 558, rfl⟩
abbrev main_call17_cst : Ref sig .tc := ⟨.hbm, 559, rfl⟩
abbrev main_call17_v15 : Ref sig .tc := ⟨.hbm, 560, rfl⟩
abbrev main_v297 : Ref sig .tc := ⟨.hbm, 561, rfl⟩
abbrev main_v298 : Ref sig .tc := ⟨.hbm, 562, rfl⟩
abbrev main_v299 : Ref sig .tc := ⟨.hbm, 563, rfl⟩
abbrev main_cst_67 : Ref sig .tc := ⟨.hbm, 564, rfl⟩
abbrev main_call18_v0 : Ref sig .tc := ⟨.hbm, 565, rfl⟩
abbrev main_call18_v1 : Ref sig .tc := ⟨.hbm, 566, rfl⟩
abbrev main_call18_v2 : Ref sig .tc := ⟨.hbm, 567, rfl⟩
abbrev main_v300 : Ref sig .tc := ⟨.hbm, 568, rfl⟩
abbrev main_v301 : Ref sig .tc := ⟨.hbm, 569, rfl⟩
abbrev main_v302 : Ref sig .tc := ⟨.hbm, 570, rfl⟩
abbrev main_v303 : Ref sig .tc := ⟨.hbm, 571, rfl⟩
abbrev main_cst_68 : Ref sig .tc := ⟨.hbm, 572, rfl⟩
abbrev main_v304 : Ref sig .tc := ⟨.hbm, 573, rfl⟩
abbrev main_v305 : Ref sig .tc := ⟨.hbm, 574, rfl⟩
abbrev main_cst_69 : Ref sig .tc := ⟨.hbm, 575, rfl⟩
abbrev main_v306 : Ref sig .tc := ⟨.hbm, 576, rfl⟩
abbrev main_v307 : Ref sig .tc := ⟨.hbm, 577, rfl⟩
abbrev main_cst_70 : Ref sig .tc := ⟨.hbm, 578, rfl⟩
abbrev main_v308 : Ref sig .tc := ⟨.hbm, 579, rfl⟩
abbrev main_v309 : Ref sig .tc := ⟨.hbm, 580, rfl⟩
abbrev main_cst_71 : Ref sig .tc := ⟨.hbm, 581, rfl⟩
abbrev main_c_72 : Ref sig .tc := ⟨.hbm, 582, rfl⟩
abbrev main_call19_v0 : Ref sig .tc := ⟨.hbm, 583, rfl⟩
abbrev main_call19_v1 : Ref sig .tc := ⟨.hbm, 584, rfl⟩
abbrev main_call19_v2 : Ref sig .tc := ⟨.hbm, 585, rfl⟩
abbrev main_call19_v3 : Ref sig .tc := ⟨.hbm, 586, rfl⟩
abbrev main_call19_v4 : Ref sig .tc := ⟨.hbm, 587, rfl⟩
abbrev main_v310 : Ref sig .tc := ⟨.hbm, 588, rfl⟩
abbrev main_v311 : Ref sig .tc := ⟨.hbm, 589, rfl⟩
abbrev main_v312 : Ref sig .tc := ⟨.hbm, 590, rfl⟩
abbrev main_c_73 : Ref sig .tc := ⟨.hbm, 591, rfl⟩
abbrev main_v313 : Ref sig .tc := ⟨.hbm, 592, rfl⟩
abbrev main_v314 : Ref sig .tc := ⟨.hbm, 593, rfl⟩
abbrev main_c_74 : Ref sig .tc := ⟨.hbm, 594, rfl⟩
abbrev main_v315 : Ref sig .tc := ⟨.hbm, 595, rfl⟩
abbrev main_v316 : Ref sig .tc := ⟨.hbm, 596, rfl⟩
abbrev main_v317 : Ref sig .tc := ⟨.hbm, 597, rfl⟩
abbrev main_v318 : Ref sig .tc := ⟨.hbm, 598, rfl⟩
abbrev main_c_75 : Ref sig .tc := ⟨.hbm, 599, rfl⟩
abbrev main_v319 : Ref sig .tc := ⟨.hbm, 600, rfl⟩
abbrev main_v320 : Ref sig .tc := ⟨.hbm, 601, rfl⟩
abbrev main_c_76 : Ref sig .tc := ⟨.hbm, 602, rfl⟩
abbrev main_v321 : Ref sig .tc := ⟨.hbm, 603, rfl⟩
abbrev main_v322 : Ref sig .tc := ⟨.hbm, 604, rfl⟩
abbrev main_v323 : Ref sig .tc := ⟨.hbm, 605, rfl⟩
abbrev main_v324 : Ref sig .tc := ⟨.hbm, 606, rfl⟩
abbrev main_v325 : Ref sig .tc := ⟨.hbm, 607, rfl⟩
abbrev main_cst_77 : Ref sig .tc := ⟨.hbm, 608, rfl⟩
abbrev main_v326 : Ref sig .tc := ⟨.hbm, 609, rfl⟩
abbrev main_v327 : Ref sig .tc := ⟨.hbm, 610, rfl⟩
abbrev main_v328 : Ref sig .tc := ⟨.hbm, 611, rfl⟩
abbrev main_v329 : Ref sig .tc := ⟨.hbm, 612, rfl⟩
abbrev main_v330 : Ref sig .tc := ⟨.hbm, 613, rfl⟩
abbrev main_c_78 : Ref sig .tc := ⟨.hbm, 614, rfl⟩
abbrev main_v331 : Ref sig .tc := ⟨.hbm, 615, rfl⟩
abbrev main_v332 : Ref sig .tc := ⟨.hbm, 616, rfl⟩
abbrev main_c_79 : Ref sig .tc := ⟨.hbm, 617, rfl⟩
abbrev main_v333 : Ref sig .tc := ⟨.hbm, 618, rfl⟩
abbrev main_v334 : Ref sig .tc := ⟨.hbm, 619, rfl⟩
abbrev main_v335 : Ref sig .tc := ⟨.hbm, 620, rfl⟩
abbrev main_v336 : Ref sig .tc := ⟨.hbm, 621, rfl⟩
abbrev main_v337 : Ref sig .tc := ⟨.hbm, 622, rfl⟩
abbrev main_v338 : Ref sig .tc := ⟨.hbm, 623, rfl⟩
abbrev main_v339 : Ref sig .tc := ⟨.hbm, 624, rfl⟩
abbrev main_v340 : Ref sig .tc := ⟨.hbm, 625, rfl⟩
abbrev main_v341 : Ref sig .tc := ⟨.hbm, 626, rfl⟩
abbrev main_v342 : Ref sig .tc := ⟨.hbm, 627, rfl⟩
abbrev main_v343 : Ref sig .tc := ⟨.hbm, 628, rfl⟩
abbrev main_v344 : Ref sig .tc := ⟨.hbm, 629, rfl⟩
abbrev main_v345 : Ref sig .tc := ⟨.hbm, 630, rfl⟩
abbrev main_v346 : Ref sig .tc := ⟨.hbm, 631, rfl⟩
abbrev main_cst_80 : Ref sig .tc := ⟨.hbm, 632, rfl⟩
abbrev main_v347 : Ref sig .tc := ⟨.hbm, 633, rfl⟩
abbrev main_cst_81 : Ref sig .tc := ⟨.hbm, 634, rfl⟩
abbrev main_v348 : Ref sig .tc := ⟨.hbm, 635, rfl⟩
abbrev main_v349 : Ref sig .tc := ⟨.hbm, 636, rfl⟩
abbrev main_v350 : Ref sig .tc := ⟨.hbm, 637, rfl⟩
abbrev main_cst_82 : Ref sig .tc := ⟨.hbm, 638, rfl⟩
abbrev main_v351 : Ref sig .tc := ⟨.hbm, 639, rfl⟩
abbrev main_v352 : Ref sig .tc := ⟨.hbm, 640, rfl⟩
abbrev main_v353 : Ref sig .tc := ⟨.hbm, 641, rfl⟩
abbrev main_v354 : Ref sig .tc := ⟨.hbm, 642, rfl⟩
abbrev main_v355 : Ref sig .tc := ⟨.hbm, 643, rfl⟩

abbrev nD : Nat := 1
abbrev τ : Topo := Topo.v7x

variable {F : FTy → Type} [FloatOps F]
-- ==== Proof.RefOps.lean ====
/-
  The reference's run. Its @main is a line of host operations, printed as eight consecutive parts and a dozen small
  functions; the operations of each part are read off the printed text as a list, a called function's own list in the place
  of its call, and the whole runs to the fold of the eight lists over the launch contents.
-/
module

public import proofs.«01_k».proof.Defs
public import proofs.«01_k».proof.Proof.Gen.ReferenceIdeal
public import Idealize.ShloMosaic.Lib.StableHlo.RunHlo
public import Idealize.ShloMosaic.Lib.Quiescent

@[expose] public section

noncomputable section

namespace Cert.Proof.Ref

open Idealize.ShloMosaic Idealize.ShloMosaic.StableHlo Idealize.SL.Sem Cert.ReferenceIdeal

section Lines

variable {nD : Nat} {τ : Topo} {sig : RefSig} {Val : EltTy → Type} {Λ : Labels}

/-- A line followed by another is the line of both lists. -/
theorem isSeq_append {p k : Prog (TpuEff nD τ sig Val Λ .tc) PUnit} {l₁ l₂ : List (HloOp τ sig Val)}
    (hp : IsSeq p l₁) (hk : IsSeq k l₂) : IsSeq (p >>= fun _ => k) (l₁ ++ l₂) := by
  unfold IsSeq at *; rw [hp, hk, seq_append]

/-- One operation alone is the line of that operation. -/
theorem isSeq_one {op : HloOp τ sig Val} :
    IsSeq (nD := nD) (Λ := Λ) (hlo rfl op fun _ => .ret (⟨⟩ : PUnit)) [op] := by
  unfold IsSeq; simp only [seq]; exact (bind_pure _).symm

/-- A line followed by the lines of several lists is the line of all of them. -/
theorem isSeq_flatten {p k : Prog (TpuEff nD τ sig Val Λ .tc) PUnit} {l : List (HloOp τ sig Val)} {L : List (List (HloOp τ sig Val))}
    (hp : IsSeq p l) (hk : IsSeq k L.flatten) : IsSeq (p >>= fun _ => k) (l :: L).flatten :=
  isSeq_append hp hk

/-- The last line of several. -/
theorem isSeq_last {p : Prog (TpuEff nD τ sig Val Λ .tc) PUnit} {l : List (HloOp τ sig Val)} (hp : IsSeq p l) :
    IsSeq p [l].flatten := by
  rw [List.flatten_cons, List.flatten_nil, List.append_nil]; exact hp

end Lines

variable [Facts]

/-- The values the certificate reads the reference at. -/
abbrev E : EltTy → Type := Elt Ideal

set_option maxHeartbeats 4000000 in
/-- The operations of @main's eight parts, read off the printed text: a called function's operations stand where the call stands. -/
def parts : {L : List (List (HloOp τ sig E)) // ∀ d, IsSeq (main (F := Ideal) d) L.flatten} := by
  apply Subtype.mk
  intro d
  unfold main
  iterate 7
    apply isSeq_flatten
    rotate_left 1
  apply isSeq_last
  all_goals
    repeat' first
    | exact IsSeq.nil
    | exact isSeq_one
    | apply IsSeq.cons
    | apply isSeq_append
    | unfold main_part0
    | unfold main_part1
    | unfold main_part2
    | unfold main_part3
    | unfold main_part4
    | unfold main_part5
    | unfold main_part6
    | unfold main_part7
    | unfold fn_where.body
    | unfold fn_floor_divide.body
    | unfold fn_argmax.body
    | unfold fn_where_0.body
    | unfold fn_take.body
    | unfold fn_where_1.body
    | unfold fn_clip.body
    | unfold fn_argmax_2.body
    | unfold fn_where_4.body
    | unfold fn_take_3.body
    | unfold fn_where_5.body
    | unfold fn_argmax_6.body
    | unfold fn_where_8.body
    | unfold fn_take_7.body
    | unfold fn_where_9.body
    | unfold fn_argmax_10.body
    | unfold fn_where_12.body
    | unfold fn_take_11.body
    | unfold fn_where_13.body

/-- The stretch of @main's operations from the `a`-th on, `n` of them. -/
abbrev stretch (a n : Nat) : List (HloOp τ sig E) := (parts.1.flatten.drop a).take n

set_option maxRecDepth 20000

/-- Operations 0 to 61: the mask, the squared lengths of the codebook's rows and the first round up to the nearest rows. -/
def refs0 : {l // stretch 0 61 = l} := by
  apply Subtype.mk
  conv_lhs => simp only [stretch, parts, List.flatten_cons, List.cons_append, List.nil_append, List.flatten_nil, List.append_nil,
    List.drop_succ_cons, List.drop_zero, List.take_succ_cons, List.take_zero]

/-- Operations 61 to 175: the first round's rows brought back to the full length, its loss, and the second round's input. -/
def refs1 : {l // stretch 61 114 = l} := by
  apply Subtype.mk
  conv_lhs => simp only [stretch, parts, List.flatten_cons, List.cons_append, List.nil_append, List.flatten_nil, List.append_nil,
    List.drop_succ_cons, List.drop_zero, List.take_succ_cons, List.take_zero]

/-- Operations 175 to 220: the second round's nearest rows. -/
def refs2 : {l // stretch 175 45 = l} := by
  apply Subtype.mk
  conv_lhs => simp only [stretch, parts, List.flatten_cons, List.cons_append, List.nil_append, List.flatten_nil, List.append_nil,
    List.drop_succ_cons, List.drop_zero, List.take_succ_cons, List.take_zero]

/-- Operations 220 to 333: the second round's output and loss, and the third round's input. -/
def refs3 : {l // stretch 220 113 = l} := by
  apply Subtype.mk
  conv_lhs => simp only [stretch, parts, List.flatten_cons, List.cons_append, List.nil_append, List.flatten_nil, List.append_nil,
    List.drop_succ_cons, List.drop_zero, List.take_succ_cons, List.take_zero]

/-- Operations 333 to 378: the third round's nearest rows. -/
def refs4 : {l // stretch 333 45 = l} := by
  apply Subtype.mk
  conv_lhs => simp only [stretch, parts, List.flatten_cons, List.cons_append, List.nil_append, List.flatten_nil, List.append_nil,
    List.drop_succ_cons, List.drop_zero, List.take_succ_cons, List.take_zero]

/-- Operations 378 to 491: the third round's output and loss, and the fourth round's input. -/
def refs5 : {l // stretch 378 113 = l} := by
  apply Subtype.mk
  conv_lhs => simp only [stretch, parts, List.flatten_cons, List.cons_append, List.nil_append, List.flatten_nil, List.append_nil,
    List.drop_succ_cons, List.drop_zero, List.take_succ_cons, List.take_zero]

/-- Operations 491 to 536: the fourth round's nearest rows. -/
def refs6 : {l // stretch 491 45 = l} := by
  apply Subtype.mk
  conv_lhs => simp only [stretch, parts, List.flatten_cons, List.cons_append, List.nil_append, List.flatten_nil, List.append_nil,
    List.drop_succ_cons, List.drop_zero, List.take_succ_cons, List.take_zero]

/-- Operations 536 to 626: the fourth round's output. -/
def refs7 : {l // stretch 536 90 = l} := by
  apply Subtype.mk
  conv_lhs => simp only [stretch, parts, List.flatten_cons, List.cons_append, List.nil_append, List.flatten_nil, List.append_nil,
    List.drop_succ_cons, List.drop_zero, List.take_succ_cons, List.take_zero]

/-- The operations from 626 on: the fourth round's loss and the two results. -/
def refs8 : {l // parts.1.flatten.drop 626 = l} := by
  apply Subtype.mk
  conv_lhs => simp only [stretch, parts, List.flatten_cons, List.cons_append, List.nil_append, List.flatten_nil, List.append_nil,
    List.drop_succ_cons, List.drop_zero, List.take_succ_cons, List.take_zero]

/-- A list from the `a`-th entry on is `n` entries and the list from the `b`-th on. -/
theorem drop_split {α : Type} (L : List α) (a n b : Nat) (h : a + n = b) : L.drop a = (L.drop a).take n ++ L.drop b := by
  subst h; rw [← List.drop_drop, List.take_append_drop]

/-- @main's operations are the nine stretches in order. -/
theorem all_eq : parts.1.flatten = refs0.1 ++ (refs1.1 ++ (refs2.1 ++ (refs3.1 ++ (refs4.1 ++ (refs5.1 ++ (refs6.1 ++ (refs7.1 ++ refs8.1))))))) := by
  rw [← refs0.2, ← refs1.2, ← refs2.2, ← refs3.2, ← refs4.2, ← refs5.2, ← refs6.2, ← refs7.2, ← refs8.2]
  unfold stretch
  rw [← drop_split _ 536 90 626 rfl]
  rw [← drop_split _ 491 45 536 rfl]
  rw [← drop_split _ 378 113 491 rfl]
  rw [← drop_split _ 333 45 378 rfl]
  rw [← drop_split _ 220 113 333 rfl]
  rw [← drop_split _ 175 45 220 rfl]
  rw [← drop_split _ 61 114 175 rfl]
  rw [← drop_split _ 0 61 61 rfl]
  exact List.drop_zero.symm

end Cert.Proof.Ref

end

end
-- ==== Proof.Lockstep.lean ====
/-
  Two lines of host operations run side by side. Each line writes its buffers in the order of their indices and each buffer once,
  so what a stretch of a line finds in a buffer of a smaller index it leaves there. `Same L` says that two memories agree on
  a list `L` of pairs of buffers; one stretch of each line carries the agreement over (`Same.step`) and adds to it the
  pairs that the two stretches compute alike.
-/
module

public import Idealize.ShloMosaic.Lib.StableHlo.Run

@[expose] public section

namespace Cert.Proof

open Idealize.ShloMosaic Idealize.ShloMosaic.StableHlo

variable {τ τ' : Topo} {sig sig' : RefSig} {Val : EltTy → Type}

/-- Every operation of the line writes one buffer, of index at least `N`. -/
def Above (N : Nat) (ops : List (HloOp τ sig Val)) : Prop :=
  ops.Forall fun op => ∃ r : Ref sig .tc, op.writes = {Proc.devRef .tc r} ∧ N ≤ r.idx.val

/-- A line leaves every buffer of a smaller index alone. -/
theorem Above.keep {N : Nat} {ops : List (HloOp τ sig Val)} (h : Above N ops) (V : Valuation τ sig Val) {b : Ref sig .tc}
    (hb : b.idx.val < N) : after ops V (Proc.devRef .tc b) = V (Proc.devRef .tc b) := by
  refine after_of_forall_not_mem ops V fun op hop hm => ?_
  obtain ⟨r, hr, hN⟩ := (List.forall_iff_forall_mem.mp h) op hop
  rw [hr, Finset.mem_singleton] at hm
  rw [Proc.devRef_injective _ hm] at hb
  omega

/-- Two lines one after the other run as their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, ih, after_cons]

/-- Two memories agree on every pair of buffers in the list. -/
def Same (L : List (Ref sig .tc × Ref sig' .tc)) (V : Valuation τ sig Val) (V' : Valuation τ' sig' Val) : Prop :=
  L.Forall fun p => HEq (V' (Proc.devRef .tc p.2)) (V (Proc.devRef .tc p.1))

variable {L L' : List (Ref sig .tc × Ref sig' .tc)} {V : Valuation τ sig Val} {V' : Valuation τ' sig' Val}

/-- The agreement at one pair. -/
theorem Same.at (h : Same L V V') {p : Ref sig .tc × Ref sig' .tc} (hp : p ∈ L) :
    HEq (V' (Proc.devRef .tc p.2)) (V (Proc.devRef .tc p.1)) :=
  (List.forall_iff_forall_mem.mp h) p hp

/-- One stretch of each line: the pairs known before are of smaller indices and stay; the new ones are added. -/
theorem Same.step {N N' : Nat} {l : List (HloOp τ sig Val)} {l' : List (HloOp τ sig' Val)}
    {V' : Valuation τ sig' Val} (hl : Above N l) (hl' : Above N' l')
    (hL : L.all (fun p => decide (p.1.idx.val < N) && decide (p.2.idx.val < N')) = true)
    (h : Same L V V') (hnew : Same L' (after l V) (after l' V')) : Same (L' ++ L) (after l V) (after l' V') := by
  refine List.forall_iff_forall_mem.mpr fun p hp => ?_
  rcases List.mem_append.mp hp with hp | hp
  · exact hnew.at hp
  · have hb := (List.all_eq_true.mp hL) p hp
    rw [Bool.and_eq_true, decide_eq_true_eq, decide_eq_true_eq] at hb
    rw [hl.keep V hb.1, hl'.keep V' hb.2]
    exact h.at hp

end Cert.Proof

end
-- ==== Proof.RefPlain.lean ====
/-
  Every operation of the reference reads and writes the TensorCore's buffers only and leaves nothing undetermined.
-/
module

public import proofs.«01_k».proof.Proof.RefOps
public import proofs.«01_k».proof.Proof.Lockstep

@[expose] public section

set_option maxRecDepth 20000
set_option maxHeartbeats 8000000

noncomputable section

namespace Cert.Proof

open Idealize.ShloMosaic Idealize.ShloMosaic.StableHlo Idealize.SL.Sem Cert.ReferenceIdeal

variable [ReferenceIdeal.Facts]

/-- Every operation of the line reads and writes the TensorCore's buffers and leaves nothing undetermined. -/
def Plain (ops : List (HloOp τ sig (Elt Ideal))) : Prop :=
  ops.Forall fun op => op.bufs ⊆ tcRefs τ sig ∧ op.fresh = ∅

/-- Two such lines make one. -/
theorem Plain.append {l₁ l₂ : List (HloOp τ sig (Elt Ideal))} (h₁ : Plain l₁) (h₂ : Plain l₂) : Plain (l₁ ++ l₂) :=
  List.forall_iff_forall_mem.mpr fun op hop => (List.mem_append.mp hop).elim
    ((List.forall_iff_forall_mem.mp h₁) op) ((List.forall_iff_forall_mem.mp h₂) op)

/-- The last stretch writes buffers of index 629 and up only. -/
theorem refs8_above : Above 629 Ref.refs8.1 := by
  unfold Above
  simp only [Ref.refs8]
  repeat' apply And.intro
  all_goals exact ⟨_, rfl, by decide⟩

/-- So it is of every stretch of the reference. -/
theorem stretches_plain : Plain Ref.refs0.1 ∧ Plain Ref.refs1.1 ∧ Plain Ref.refs2.1 ∧ Plain Ref.refs3.1 ∧ Plain Ref.refs4.1
    ∧ Plain Ref.refs5.1 ∧ Plain Ref.refs6.1 ∧ Plain Ref.refs7.1 ∧ Plain Ref.refs8.1 := by
  refine ⟨?_, ?_, ?_, ?_, ?_, ?_, ?_, ?_, ?_⟩
  all_goals
    unfold Plain
    simp only [Ref.refs0, Ref.refs1, Ref.refs2, Ref.refs3, Ref.refs4, Ref.refs5, Ref.refs6, Ref.refs7, Ref.refs8]
    repeat' apply And.intro
  all_goals first
    | exact (rfl : HloOp.fresh _ = ∅)
    | with_reducible exact unary_bufs_sub ..
    | with_reducible exact binary_bufs_sub ..
    | with_reducible exact nullary_bufs_sub ..
    | with_reducible exact ternary_bufs_sub ..
    | with_reducible exact reshape_bufs_sub ..
    | with_reducible exact nary_bufs_sub ..
    | with_reducible exact unaryIndexed_bufs_sub ..
    | with_reducible exact binaryIndexed_bufs_sub ..
    | (unfold TRef.unary; exact unary_bufs_sub ..)
    | (unfold TRef.binary; exact binary_bufs_sub ..)
    | (unfold TRef.nullary; exact nullary_bufs_sub ..)
    | (unfold TRef.ternary; exact ternary_bufs_sub ..)
    | (unfold TRef.quaternary; exact quaternary_bufs_sub ..)
    | rfl

end Cert.Proof

end

end
-- ==== Proof.Pairs.lean ====
/-
  Which buffers of the kernel's host operations and of the reference hold the same contents: the list grows by each half round.
-/
module

public import proofs.«01_k».proof.Defs
public import proofs.«01_k».proof.Proof.Lockstep

@[expose] public section

namespace Cert.Proof

open Idealize.ShloMosaic Cert.KernelIdeal

/-- The arguments. -/
abbrev pairsArgs : List (Ref sig .tc × Ref ReferenceIdeal.sig .tc) :=
  [(main_arg0, ReferenceIdeal.main_arg0), (main_arg1, ReferenceIdeal.main_arg1), (main_arg2, ReferenceIdeal.main_arg2)]

/-- Added: the zero start, the mask, the codebook's squared lengths, the masked input, the valid places, the nearest rows. -/
abbrev pairs0 : List (Ref sig .tc × Ref ReferenceIdeal.sig .tc) :=
  [(main_v0, ReferenceIdeal.main_v0), (main_v7, ReferenceIdeal.main_v7), (main_v9, ReferenceIdeal.main_v9), (main_v15, ReferenceIdeal.main_v12), (main_v22, ReferenceIdeal.main_v19), (main_v38, ReferenceIdeal.main_v35)] ++ pairsArgs

/-- Added: the first output and residual, the pooled residual. -/
abbrev pairs1 : List (Ref sig .tc × Ref ReferenceIdeal.sig .tc) :=
  [(main_c_20, ReferenceIdeal.main_c_22), (main_v85, ReferenceIdeal.main_v82), (main_v88, ReferenceIdeal.main_v95), (main_v92, ReferenceIdeal.main_v99)] ++ pairs0

/-- Added: the second round's nearest rows and valid places. -/
abbrev pairs2 : List (Ref sig .tc × Ref ReferenceIdeal.sig .tc) :=
  [(main_v115, ReferenceIdeal.main_v122), (main_v99, ReferenceIdeal.main_v106)] ++ pairs1

/-- Added: the second output and residual, the pooled residual. -/
abbrev pairs3 : List (Ref sig .tc × Ref ReferenceIdeal.sig .tc) :=
  [(main_c_38, ReferenceIdeal.main_c_43), (main_v162, ReferenceIdeal.main_v169), (main_v165, ReferenceIdeal.main_v182), (main_v169, ReferenceIdeal.main_v186)] ++ pairs2

/-- Added: the third round's valid places and nearest rows. -/
abbrev pairs4 : List (Ref sig .tc × Ref ReferenceIdeal.sig .tc) :=
  [(main_v176, ReferenceIdeal.main_v193), (main_v192, ReferenceIdeal.main_v209)] ++ pairs3

/-- Added: the third output and residual, the pooled residual. -/
abbrev pairs5 : List (Ref sig .tc × Ref ReferenceIdeal.sig .tc) :=
  [(main_c_56, ReferenceIdeal.main_c_64), (main_v239, ReferenceIdeal.main_v256), (main_v242, ReferenceIdeal.main_v269), (main_v246, ReferenceIdeal.main_v273)] ++ pairs4

/-- Added: the fourth round's valid places and nearest rows. -/
abbrev pairs6 : List (Ref sig .tc × Ref ReferenceIdeal.sig .tc) :=
  [(main_v253, ReferenceIdeal.main_v280), (main_v269, ReferenceIdeal.main_v296)] ++ pairs5

/-- Added: the fourth output. -/
abbrev pairs7 : List (Ref sig .tc × Ref ReferenceIdeal.sig .tc) :=
  [(main_v316, ReferenceIdeal.main_v343)] ++ pairs6

end Cert.Proof

end
-- ==== Proof.Round1.lean ====
/-
  The first round of the quantiser: the kernel's host operations and the reference's, run from memories that agree, compute
  the same nearest rows, the same output and the same next input.
-/
module

public import proofs.«01_k».proof.Proof.RefOps
public import proofs.«01_k».proof.Proof.Pairs
public import proofs.«01_k».proof.Proof.Gen.KernelIdeal.Launch

@[expose] public section

set_option maxRecDepth 20000
set_option maxHeartbeats 1000000

noncomputable section

namespace Cert.Proof

open Idealize.ShloMosaic Idealize.ShloMosaic.StableHlo Cert.KernelIdeal Cert.KernelIdeal.Gen

variable [ReferenceIdeal.Facts]

/-! ## The first round, up to the rows nearest to the input -/

/-- The kernel's operations of this stretch. -/
abbrev kern0 : List (HloOp τ sig (Elt Ideal)) := hostOps0 ++ hostOps0_1 ++ hostOps0_2 ++ hostOps0_3

theorem kern0_above : Above 3 kern0 := by
  unfold Above
  simp only [kern0, List.cons_append, List.nil_append]
  repeat' apply And.intro
  all_goals exact ⟨_, rfl, by decide⟩

theorem refs0_above : Above 3 Ref.refs0.1 := by
  unfold Above
  simp only [Ref.refs0]
  repeat' apply And.intro
  all_goals exact ⟨_, rfl, by decide⟩

theorem same0 (V : Valuation τ sig (Elt Ideal)) (V' : Valuation ReferenceIdeal.τ ReferenceIdeal.sig (Elt Ideal)) (h : Same pairsArgs V V') :
    Same pairs0 (after kern0 V) (after Ref.refs0.1 V') := by
  refine h.step kern0_above refs0_above (by decide) ?_
  have h0 := eq_of_heq (h.at (p := (main_arg0, ReferenceIdeal.main_arg0)) (by decide))
  have h1 := eq_of_heq (h.at (p := (main_arg1, ReferenceIdeal.main_arg1)) (by decide))
  have h2 := eq_of_heq (h.at (p := (main_arg2, ReferenceIdeal.main_arg2)) (by decide))
  simp only [kern0, Ref.refs0, List.cons_append, List.nil_append]
  refine ⟨heq_of_eq ?_, heq_of_eq ?_, heq_of_eq ?_, heq_of_eq ?_, heq_of_eq ?_, heq_of_eq ?_⟩
  all_goals
    after_results_simp
    try simp only [h0, h1, h2]
    try rfl

/-! ## The first round, from the nearest rows to the output, and the next input -/

/-- The kernel's operations of this stretch. -/
abbrev kern1 : List (HloOp τ sig (Elt Ideal)) := hostOps0_4 ++ hostOps0_5 ++ hostOps0_6 ++ hostOps0_7 ++ hostOps0_8 ++ hostOps0_9

theorem kern1_above : Above 69 kern1 := by
  unfold Above
  simp only [kern1, List.cons_append, List.nil_append]
  repeat' apply And.intro
  all_goals exact ⟨_, rfl, by decide⟩

theorem refs1_above : Above 64 Ref.refs1.1 := by
  unfold Above
  simp only [Ref.refs1]
  repeat' apply And.intro
  all_goals exact ⟨_, rfl, by decide⟩

theorem same1 (V : Valuation τ sig (Elt Ideal)) (V' : Valuation ReferenceIdeal.τ ReferenceIdeal.sig (Elt Ideal)) (h : Same pairs0 V V') :
    Same pairs1 (after kern1 V) (after Ref.refs1.1 V') := by
  refine h.step kern1_above refs1_above (by decide) ?_
  have h0 := eq_of_heq (h.at (p := (main_arg2, ReferenceIdeal.main_arg2)) (by decide))
  have h1 := eq_of_heq (h.at (p := (main_v0, ReferenceIdeal.main_v0)) (by decide))
  have h2 := eq_of_heq (h.at (p := (main_v7, ReferenceIdeal.main_v7)) (by decide))
  have h3 := eq_of_heq (h.at (p := (main_v15, ReferenceIdeal.main_v12)) (by decide))
  have h4 := eq_of_heq (h.at (p := (main_v22, ReferenceIdeal.main_v19)) (by decide))
  have h5 := eq_of_heq (h.at (p := (main_v38, ReferenceIdeal.main_v35)) (by decide))
  simp only [kern1, Ref.refs1, List.cons_append, List.nil_append]
  refine ⟨heq_of_eq ?_, heq_of_eq ?_, heq_of_eq ?_, heq_of_eq ?_⟩
  all_goals
    after_results_simp
    try simp only [h0, h1, h2, h3, h4, h5]
    try rfl

end Cert.Proof

end

end
-- ==== Proof.Round2.lean ====
/-
  The second round of the quantiser: the kernel's host operations and the reference's, run from memories that agree, compute
  the same nearest rows, the same output and the same next input.
-/
module

public import proofs.«01_k».proof.Proof.RefOps
public import proofs.«01_k».proof.Proof.Pairs
public import proofs.«01_k».proof.Proof.Gen.KernelIdeal.Launch

@[expose] public section

set_option maxRecDepth 20000
set_option maxHeartbeats 1000000

noncomputable section

namespace Cert.Proof

open Idealize.ShloMosaic Idealize.ShloMosaic.StableHlo Cert.KernelIdeal Cert.KernelIdeal.Gen

variable [ReferenceIdeal.Facts]

/-! ## The second round, up to the rows nearest to the input -/

/-- The kernel's operations of this stretch. -/
abbrev kern2 : List (HloOp τ sig (Elt Ideal)) := hostOps0_10 ++ hostOps0_11 ++ hostOps0_12

theorem kern2_above : Above 169 kern2 := by
  unfold Above
  simp only [kern2, List.cons_append, List.nil_append]
  repeat' apply And.intro
  all_goals exact ⟨_, rfl, by decide⟩

theorem refs2_above : Above 178 Ref.refs2.1 := by
  unfold Above
  simp only [Ref.refs2]
  repeat' apply And.intro
  all_goals exact ⟨_, rfl, by decide⟩

theorem same2 (V : Valuation τ sig (Elt Ideal)) (V' : Valuation ReferenceIdeal.τ ReferenceIdeal.sig (Elt Ideal)) (h : Same pairs1 V V') :
    Same pairs2 (after kern2 V) (after Ref.refs2.1 V') := by
  refine h.step kern2_above refs2_above (by decide) ?_
  have h0 := eq_of_heq (h.at (p := (main_arg1, ReferenceIdeal.main_arg1)) (by decide))
  have h1 := eq_of_heq (h.at (p := (main_arg2, ReferenceIdeal.main_arg2)) (by decide))
  have h2 := eq_of_heq (h.at (p := (main_v9, ReferenceIdeal.main_v9)) (by decide))
  have h3 := eq_of_heq (h.at (p := (main_c_20, ReferenceIdeal.main_c_22)) (by decide))
  have h4 := eq_of_heq (h.at (p := (main_v92, ReferenceIdeal.main_v99)) (by decide))
  simp only [kern2, Ref.refs2, List.cons_append, List.nil_append]
  refine ⟨heq_of_eq ?_, heq_of_eq ?_⟩
  all_goals
    after_results_simp
    try simp only [h0, h1, h2, h3, h4]
    try rfl

/-! ## The second round, from the nearest rows to the output, and the next input -/

/-- The kernel's operations of this stretch. -/
abbrev kern3 : List (HloOp τ sig (Elt Ideal)) := hostOps0_13 ++ hostOps0_14 ++ hostOps0_15 ++ hostOps0_16 ++ hostOps0_17 ++ hostOps0_18

theorem kern3_above : Above 214 kern3 := by
  unfold Above
  simp only [kern3, List.cons_append, List.nil_append]
  repeat' apply And.intro
  all_goals exact ⟨_, rfl, by decide⟩

theorem refs3_above : Above 223 Ref.refs3.1 := by
  unfold Above
  simp only [Ref.refs3]
  repeat' apply And.intro
  all_goals exact ⟨_, rfl, by decide⟩

theorem same3 (V : Valuation τ sig (Elt Ideal)) (V' : Valuation ReferenceIdeal.τ ReferenceIdeal.sig (Elt Ideal)) (h : Same pairs2 V V') :
    Same pairs3 (after kern3 V) (after Ref.refs3.1 V') := by
  refine h.step kern3_above refs3_above (by decide) ?_
  have h0 := eq_of_heq (h.at (p := (main_arg2, ReferenceIdeal.main_arg2)) (by decide))
  have h1 := eq_of_heq (h.at (p := (main_v7, ReferenceIdeal.main_v7)) (by decide))
  have h2 := eq_of_heq (h.at (p := (main_v85, ReferenceIdeal.main_v82)) (by decide))
  have h3 := eq_of_heq (h.at (p := (main_v88, ReferenceIdeal.main_v95)) (by decide))
  have h4 := eq_of_heq (h.at (p := (main_v99, ReferenceIdeal.main_v106)) (by decide))
  have h5 := eq_of_heq (h.at (p := (main_v115, ReferenceIdeal.main_v122)) (by decide))
  simp only [kern3, Ref.refs3, List.cons_append, List.nil_append]
  refine ⟨heq_of_eq ?_, heq_of_eq ?_, heq_of_eq ?_, heq_of_eq ?_⟩
  all_goals
    after_results_simp
    try simp only [h0, h1, h2, h3, h4, h5]
    try rfl

end Cert.Proof

end

end
-- ==== Proof.Round3.lean ====
/-
  The third round of the quantiser: the kernel's host operations and the reference's, run from memories that agree, compute
  the same nearest rows, the same output and the same next input.
-/
module

public import proofs.«01_k».proof.Proof.RefOps
public import proofs.«01_k».proof.Proof.Pairs
public import proofs.«01_k».proof.Proof.Gen.KernelIdeal.Launch

@[expose] public section

set_option maxRecDepth 20000
set_option maxHeartbeats 1000000

noncomputable section

namespace Cert.Proof

open Idealize.ShloMosaic Idealize.ShloMosaic.StableHlo Cert.KernelIdeal Cert.KernelIdeal.Gen

variable [ReferenceIdeal.Facts]

/-! ## The third round, up to the rows nearest to the input -/

/-- The kernel's operations of this stretch. -/
abbrev kern4 : List (HloOp τ sig (Elt Ideal)) := hostOps0_19 ++ hostOps0_20 ++ hostOps0_21

theorem kern4_above : Above 314 kern4 := by
  unfold Above
  simp only [kern4, List.cons_append, List.nil_append]
  repeat' apply And.intro
  all_goals exact ⟨_, rfl, by decide⟩

theorem refs4_above : Above 336 Ref.refs4.1 := by
  unfold Above
  simp only [Ref.refs4]
  repeat' apply And.intro
  all_goals exact ⟨_, rfl, by decide⟩

theorem same4 (V : Valuation τ sig (Elt Ideal)) (V' : Valuation ReferenceIdeal.τ ReferenceIdeal.sig (Elt Ideal)) (h : Same pairs3 V V') :
    Same pairs4 (after kern4 V) (after Ref.refs4.1 V') := by
  refine h.step kern4_above refs4_above (by decide) ?_
  have h0 := eq_of_heq (h.at (p := (main_arg1, ReferenceIdeal.main_arg1)) (by decide))
  have h1 := eq_of_heq (h.at (p := (main_arg2, ReferenceIdeal.main_arg2)) (by decide))
  have h2 := eq_of_heq (h.at (p := (main_v9, ReferenceIdeal.main_v9)) (by decide))
  have h3 := eq_of_heq (h.at (p := (main_c_38, ReferenceIdeal.main_c_43)) (by decide))
  have h4 := eq_of_heq (h.at (p := (main_v169, ReferenceIdeal.main_v186)) (by decide))
  simp only [kern4, Ref.refs4, List.cons_append, List.nil_append]
  refine ⟨heq_of_eq ?_, heq_of_eq ?_⟩
  all_goals
    after_results_simp
    try simp only [h0, h1, h2, h3, h4]
    try rfl

/-! ## The third round, from the nearest rows to the output, and the next input -/

/-- The kernel's operations of this stretch. -/
abbrev kern5 : List (HloOp τ sig (Elt Ideal)) := hostOps0_22 ++ hostOps0_23 ++ hostOps0_24 ++ hostOps0_25 ++ hostOps0_26 ++ hostOps0_27

theorem kern5_above : Above 359 kern5 := by
  unfold Above
  simp only [kern5, List.cons_append, List.nil_append]
  repeat' apply And.intro
  all_goals exact ⟨_, rfl, by decide⟩

theorem refs5_above : Above 381 Ref.refs5.1 := by
  unfold Above
  simp only [Ref.refs5]
  repeat' apply And.intro
  all_goals exact ⟨_, rfl, by decide⟩

theorem same5 (V : Valuation τ sig (Elt Ideal)) (V' : Valuation ReferenceIdeal.τ ReferenceIdeal.sig (Elt Ideal)) (h : Same pairs4 V V') :
    Same pairs5 (after kern5 V) (after Ref.refs5.1 V') := by
  refine h.step kern5_above refs5_above (by decide) ?_
  have h0 := eq_of_heq (h.at (p := (main_arg2, ReferenceIdeal.main_arg2)) (by decide))
  have h1 := eq_of_heq (h.at (p := (main_v7, ReferenceIdeal.main_v7)) (by decide))
  have h2 := eq_of_heq (h.at (p := (main_v162, ReferenceIdeal.main_v169)) (by decide))
  have h3 := eq_of_heq (h.at (p := (main_v165, ReferenceIdeal.main_v182)) (by decide))
  have h4 := eq_of_heq (h.at (p := (main_v176, ReferenceIdeal.main_v193)) (by decide))
  have h5 := eq_of_heq (h.at (p := (main_v192, ReferenceIdeal.main_v209)) (by decide))
  simp only [kern5, Ref.refs5, List.cons_append, List.nil_append]
  refine ⟨heq_of_eq ?_, heq_of_eq ?_, heq_of_eq ?_, heq_of_eq ?_⟩
  all_goals
    after_results_simp
    try simp only [h0, h1, h2, h3, h4, h5]
    try rfl

end Cert.Proof

end

end
-- ==== Proof.Round4.lean ====
/-
  The fourth round of the quantiser: the kernel's host operations and the reference's, run from memories that agree, compute
  the same nearest rows, the same output and the same next input.
-/
module

public import proofs.«01_k».proof.Proof.RefOps
public import proofs.«01_k».proof.Proof.Pairs
public import proofs.«01_k».proof.Proof.Gen.KernelIdeal.Launch

@[expose] public section

set_option maxRecDepth 20000
set_option maxHeartbeats 1000000

noncomputable section

namespace Cert.Proof

open Idealize.ShloMosaic Idealize.ShloMosaic.StableHlo Cert.KernelIdeal Cert.KernelIdeal.Gen

variable [ReferenceIdeal.Facts]

/-! ## The fourth round, up to the rows nearest to the input -/

/-- The kernel's operations of this stretch. -/
abbrev kern6 : List (HloOp τ sig (Elt Ideal)) := hostOps0_28 ++ hostOps0_29 ++ hostOps0_30

theorem kern6_above : Above 459 kern6 := by
  unfold Above
  simp only [kern6, List.cons_append, List.nil_append]
  repeat' apply And.intro
  all_goals exact ⟨_, rfl, by decide⟩

theorem refs6_above : Above 494 Ref.refs6.1 := by
  unfold Above
  simp only [Ref.refs6]
  repeat' apply And.intro
  all_goals exact ⟨_, rfl, by decide⟩

theorem same6 (V : Valuation τ sig (Elt Ideal)) (V' : Valuation ReferenceIdeal.τ ReferenceIdeal.sig (Elt Ideal)) (h : Same pairs5 V V') :
    Same pairs6 (after kern6 V) (after Ref.refs6.1 V') := by
  refine h.step kern6_above refs6_above (by decide) ?_
  have h0 := eq_of_heq (h.at (p := (main_arg1, ReferenceIdeal.main_arg1)) (by decide))
  have h1 := eq_of_heq (h.at (p := (main_arg2, ReferenceIdeal.main_arg2)) (by decide))
  have h2 := eq_of_heq (h.at (p := (main_v9, ReferenceIdeal.main_v9)) (by decide))
  have h3 := eq_of_heq (h.at (p := (main_c_56, ReferenceIdeal.main_c_64)) (by decide))
  have h4 := eq_of_heq (h.at (p := (main_v246, ReferenceIdeal.main_v273)) (by decide))
  simp only [kern6, Ref.refs6, List.cons_append, List.nil_append]
  refine ⟨heq_of_eq ?_, heq_of_eq ?_⟩
  all_goals
    after_results_simp
    try simp only [h0, h1, h2, h3, h4]
    try rfl

/-! ## The fourth round, from the nearest rows to the output -/

/-- The kernel's operations of this stretch. -/
abbrev kern7 : List (HloOp τ sig (Elt Ideal)) := hostOps0_31 ++ hostOps0_32 ++ hostOps0_33 ++ hostOps0_34 ++ hostOps0_35 ++ hostOps0_36

theorem kern7_above : Above 504 kern7 := by
  unfold Above
  simp only [kern7, List.cons_append, List.nil_append]
  repeat' apply And.intro
  all_goals exact ⟨_, rfl, by decide⟩

theorem refs7_above : Above 539 Ref.refs7.1 := by
  unfold Above
  simp only [Ref.refs7]
  repeat' apply And.intro
  all_goals exact ⟨_, rfl, by decide⟩

theorem same7 (V : Valuation τ sig (Elt Ideal)) (V' : Valuation ReferenceIdeal.τ ReferenceIdeal.sig (Elt Ideal)) (h : Same pairs6 V V') :
    Same pairs7 (after kern7 V) (after Ref.refs7.1 V') := by
  refine h.step kern7_above refs7_above (by decide) ?_
  have h0 := eq_of_heq (h.at (p := (main_arg2, ReferenceIdeal.main_arg2)) (by decide))
  have h1 := eq_of_heq (h.at (p := (main_v239, ReferenceIdeal.main_v256)) (by decide))
  have h2 := eq_of_heq (h.at (p := (main_v253, ReferenceIdeal.main_v280)) (by decide))
  have h3 := eq_of_heq (h.at (p := (main_v269, ReferenceIdeal.main_v296)) (by decide))
  simp only [kern7, Ref.refs7, List.cons_append, List.nil_append]
  refine heq_of_eq ?_
  after_results_simp
  try simp only [h0, h1, h2, h3]
  try rfl

end Cert.Proof

end

end
-- ==== Proof.RefRun.lean ====
/-
  The reference runs: from any memory it ends at the fold of its operations over that memory, its arguments as they were.
-/
module

public import proofs.«01_k».proof.Proof.RefPlain
public import proofs.«01_k».proof.Proof.Round1
public import proofs.«01_k».proof.Proof.Round2
public import proofs.«01_k».proof.Proof.Round3
public import proofs.«01_k».proof.Proof.Round4

@[expose] public section

set_option maxRecDepth 20000
set_option maxHeartbeats 1000000

noncomputable section

namespace Cert.Proof

open Idealize.ShloMosaic Idealize.ShloMosaic.StableHlo Idealize.SL.Sem Cert.ReferenceIdeal

variable [ReferenceIdeal.Facts]

/-- The whole reference is such a line. -/
theorem all_plain : Plain Ref.parts.1.flatten := by
  rw [Ref.all_eq]
  obtain ⟨h0, h1, h2, h3, h4, h5, h6, h7, h8⟩ := stretches_plain
  exact h0.append (h1.append (h2.append (h3.append (h4.append (h5.append (h6.append (h7.append h8)))))))

/-- The reference's memory before the last stretch. -/
def refMem (V : Valuation τ sig (Elt Ideal)) : Valuation τ sig (Elt Ideal) :=
  after Ref.refs7.1 (after Ref.refs6.1 (after Ref.refs5.1 (after Ref.refs4.1 (after Ref.refs3.1 (after Ref.refs2.1
    (after Ref.refs1.1 (after Ref.refs0.1 V)))))))

/-- The whole reference is its last stretch, run from the memory before it. -/
theorem all_after (V : Valuation τ sig (Elt Ideal)) : after Ref.parts.1.flatten V = after Ref.refs8.1 (refMem V) := by
  refine (congrArg (fun l => after l V) Ref.all_eq).trans ?_
  simp only [after_append]
  rfl

/-- A buffer of index below three — an argument — is never written. -/
theorem all_keep (V : Valuation τ sig (Elt Ideal)) {b : Ref sig .tc} (hb : b.idx.val < 3) :
    after Ref.parts.1.flatten V (Proc.devRef .tc b) = V (Proc.devRef .tc b) := by
  rw [all_after]
  unfold refMem
  rw [refs8_above.keep _ (by omega), refs7_above.keep _ (by omega), refs6_above.keep _ (by omega), refs5_above.keep _ (by omega),
    refs4_above.keep _ (by omega), refs3_above.keep _ (by omega), refs2_above.keep _ (by omega), refs1_above.keep _ (by omega),
    refs0_above.keep _ (by omega)]

/-- The reference's run. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = after Ref.parts.1.flatten (launchContents m d) (Proc.devRef .tc b) :=
  run_hlo defs main Ref.parts.2 (by decide) (by decide)
    (List.forall_iff_forall_mem.mpr fun op hop => ((List.forall_iff_forall_mem.mp all_plain) op hop).1)
    (fun op hop => ((List.forall_iff_forall_mem.mp all_plain) op hop).2) m ρ

/-- The reference's arguments end as they were, and it has no semaphore. -/
theorem ref_quiescent : Cert.quiescent_ReferenceIdeal := by
  intro m ρ _
  exact θ_run_mono (ref_run m ρ) fun r h => ⟨fun c => ⟨(h c main_arg0).trans (all_keep _ (by decide)),
    (h c main_arg1).trans (all_keep _ (by decide)), (h c main_arg2).trans (all_keep _ (by decide))⟩,
    sem_eq_zero_of_no_sems (by decide) r.2⟩

end Cert.Proof

end

end
-- ==== Proof.Tile.lean ====
/-
  What the loss kernel's body computes at one grid point, over the extended reals: one sum of masked squared errors per
  codebook round (`tile`), the four sums side by side in a [1,4] row (`row`), and what the body leaves in the output's
  buffer in each of its two cases: the row itself at the first point, the old contents plus the row at the others.
-/
module

public import proofs.«01_k».proof.Defs
public import proofs.«01_k».proof.Proof.Gen.KernelIdeal.Frame
public import Idealize.ShloMosaic.Lib.Pipeline.Value
public import Idealize.ShloMosaic.Lib.Pointwise.Index
public import Idealize.ShloMosaic.PureOps.Ideal.Laws
public import Idealize.ShloMosaic.Lib.IdealHost

@[expose] public section

noncomputable section

open Idealize.ShloMosaic Idealize.ShloMosaic.TcCoe Idealize.SL.Sem
open Idealize.ShloMosaic.Pipeline (Dat)

namespace Cert.Proof

open Cert.KernelIdeal Cert.KernelIdeal.Gen

/-- One block's masked squared error: the sum over the block of `(x - f)² · mask`. -/
def tile (x f : Vec Ideal S1x256x512 .f32) (k : Vec Ideal S1x1x512 .f32) : EReal :=
  ∑ p : S1x256x512.Idx, (x p - f p) * (x p - f p) * k (ix3 0 0 (p 2))

/-- Four numbers as a [1,4] row. -/
def row (s : Fin 4 → EReal) : Vec Ideal S1x4 .f32 := fun j => s (j 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The mask row spread over the block's channels is read at the block's last coordinate. -/
theorem spread_apply (k : Vec Ideal S1x1x512 .f32) (p : S1x256x512.Idx) :
    broadcastTo S1x256x512 k broadcasts_S1x1x512_S1x256x512 p = k (ix3 0 0 (p 2)) := by
  unfold broadcastTo
  congr 1
  funext a
  match a with
  | ⟨0, _⟩ => rfl
  | ⟨1, _⟩ => rfl
  | ⟨2, _⟩ => rfl

/-- A block's sum as the body writes it — one leading unit axis added, every other axis reduced, the one number read back — is
    the sum over the block. -/
theorem sum_block (v : FVec Ideal S1x256x512 .f32) :
    extractAt ![0, 0, 0, 0] (shapeCast S1x1x1x1 (multiReduction .add [1, 2, 3] S1
      (shapeCast S1x1x256x512 v shapeCasts_S1x256x512_S1x1x256x512) 0x00000000#32 reduces_S1x1x256x512_S1 (.inl rfl) rfl)
      shapeCasts_S1_S1x1x1x1) inpos_S1x1x1x1_p0_0_0_0 = ∑ p : S1x256x512.Idx, v p := by
  unfold extractAt
  refine (Ideal.multiReduction_add_total _ _ _ (fun b => by match b with | ⟨0, _⟩ => rfl) _ _ _).trans ?_
  exact Equiv.sum_comp (Shape.reshapeEquiv shapeCasts_S1x256x512_S1x1x256x512) v

/-- The masked squared errors of one round, summed: the body's number for that round. -/
theorem tile_eq (x f : Vec Ideal S1x256x512 .f32) (k : Vec Ideal S1x1x512 .f32) :
    ∑ p : S1x256x512.Idx, (mulf (mulf (subf x f) (subf x f)) (broadcastTo S1x256x512 k broadcasts_S1x1x512_S1x256x512) : FVec Ideal S1x256x512 .f32) p
      = tile x f k := by
  unfold tile
  refine Finset.sum_congr rfl fun p _ => ?_
  exact congrArg (fun y : EReal => (x p - f p) * (x p - f p) * y) (spread_apply k p)

theorem pay4_eq (x : Vec Ideal S1x256x512 .f32) (k : Vec Ideal S1x1x512 .f32) (f : Vec Ideal S1x256x512 .f32) :
    k0_pay4 x k f = broadcast S1x1 (tile x f k) := by
  unfold k0_pay4 k0_pay3
  simp only [shapeCast_self]
  rw [sum_block, tile_eq]

theorem pay5_eq (x : Vec Ideal S1x256x512 .f32) (k : Vec Ideal S1x1x512 .f32) (f : Vec Ideal S1x256x512 .f32) :
    k0_pay5 x k f = broadcast S1x1 (tile x f k) := pay4_eq x k f

theorem pay6_eq (x : Vec Ideal S1x256x512 .f32) (k : Vec Ideal S1x1x512 .f32) (f : Vec Ideal S1x256x512 .f32) :
    k0_pay6 x k f = broadcast S1x1 (tile x f k) := pay4_eq x k f

/-- Four one-element pieces side by side are the row of their numbers. -/
theorem concat_row (s : Fin 4 → EReal) :
    concatenate S1x4 1 [⟨S1x1, broadcast S1x1 (s 0)⟩, ⟨S1x1, broadcast S1x1 (s 1)⟩, ⟨S1x1, broadcast S1x1 (s 2)⟩,
      ⟨S1x1, broadcast S1x1 (s 3)⟩] concatenates_S1x1_S1x1_S1x1_S1x1_S1x4_d1 = row s := by
  funext j
  obtain ⟨n, hn⟩ : ∃ n : Fin 4, j 1 = n := ⟨j 1, rfl⟩
  have hj : row s j = s n := congrArg s hn
  rw [hj]
  refine concatenate_apply_piece _ _ _ j n.val (by simp) S1x1 (broadcast S1x1 (s n)) (by fin_cases n <;> rfl) rfl n.val
    (by fin_cases n <;> rfl) (ix2 0 0) (fun b hb => ?_) ?_
  · match b with
    | ⟨0, _⟩ => show 0 = (j 0).val; have : (j 0).val < 1 := (j 0).isLt; omega
    | ⟨1, _⟩ => exact absurd rfl hb
  · show n.val + 0 = (j 1).val; rw [hn]; rfl

/-- The row of one block's four sums. -/
abbrev tiles (x f0 f1 f2 f3 : Vec Ideal S1x256x512 .f32) (k : Vec Ideal S1x1x512 .f32) : Fin 4 → EReal :=
  ![tile x f0 k, tile x f1 k, tile x f2 k, tile x f3 k]

theorem pay1_eq (x f0 f1 f2 f3 : Vec Ideal S1x256x512 .f32) (k : Vec Ideal S1x1x512 .f32) :
    k0_pay1 x (k0_pay3 k) (k0_pay4 x k f0) (k0_pay5 x k f1) (k0_pay6 x k f2) (k0_pay7 f3) = row (tiles x f0 f1 f2 f3 k) := by
  rw [pay4_eq, pay5_eq, pay6_eq]
  rw [show k0_pay3 k = k from shapeCast_self k _, show k0_pay7 f3 = f3 from shapeCast_self f3 _]
  unfold k0_pay1
  dsimp only
  rw [sum_block, tile_eq]
  exact concat_row (tiles x f0 f1 f2 f3 k)

section
variable (c : Dev nD) (i : grid0.Coords) (a1 : Memref sig .tc .vmem S1x256x512 .f32) (h1 : a1.IsWhole)
  (a2 : Memref sig .tc .vmem S1x256x512 .f32) (h2 : a2.IsWhole) (a3 : Memref sig .tc .vmem S1x256x512 .f32) (h3 : a3.IsWhole)
  (a4 : Memref sig .tc .vmem S1x256x512 .f32) (h4 : a4.IsWhole) (a5 : Memref sig .tc .vmem S1x256x512 .f32) (h5 : a5.IsWhole)
  (a6 : Memref sig .tc .vmem S1x1x512 .f32) (h6 : a6.IsWhole) (a7 : Memref sig .tc .vmem S1x4 .f32) (h7 : a7.IsWhole)
  (x f0 f1 f2 f3 : Vec Ideal S1x256x512 .f32) (k : Vec Ideal S1x1x512 .f32) (o : Vec Ideal S1x4 .f32)

/-- At the first point the body leaves the row of the block's sums. -/
theorem out_A (hc0 : cond0_0 i) (hc1 : ¬cond0_1 i) :
    out0_A_6 c i a1 h1 a2 h2 a3 h3 a4 h4 a5 h5 a6 h6 a7 h7 hc0 hc1 x f0 f1 f2 f3 k = row (tiles x f0 f1 f2 f3 k) := by
  unfold out0_A_6
  rw [View.read_writes_eq_canon _ _ _ (cover0_A_6 c i a1 h1 a2 h2 a3 h3 a4 h4 a5 h5 a6 h6 a7 h7 hc0 hc1 x f0 f1 f2 f3 k)]
  unfold kernelRun0_A
  dsimp only
  rw [View.canon_unit_zero hz2]
  sl_unfold_words
  simp only [View.readAt_eq_ld, h1.read_unread, h2.read_unread, h3.read_unread, h4.read_unread, h5.read_unread,
    h6.read_unread, View.ld_unit_zero (S := S1x256x512) hz3, View.ld_unit_zero (S := S1x1x512) hz3]
  exact pay1_eq x f0 f1 f2 f3 k

/-- At a later point the body leaves what was there plus the row of the block's sums. -/
theorem out_B (hc0 : ¬cond0_0 i) (hc1 : cond0_1 i) :
    out0_B_6 c i a1 h1 a2 h2 a3 h3 a4 h4 a5 h5 a6 h6 a7 h7 hc0 hc1 x f0 f1 f2 f3 k o
      = (addf o (row (tiles x f0 f1 f2 f3 k)) : FVec Ideal S1x4 .f32) := by
  unfold out0_B_6
  rw [View.read_writes_eq_canon _ _ _ (cover0_B_6 c i a1 h1 a2 h2 a3 h3 a4 h4 a5 h5 a6 h6 a7 h7 hc0 hc1 x f0 f1 f2 f3 k o)]
  unfold kernelRun0_B
  dsimp only
  rw [View.canon_unit_zero hz2]
  sl_unfold_words
  unfold k0_pay2
  simp only [View.readAt_eq_ld, h1.read_unread, h2.read_unread, h3.read_unread, h4.read_unread, h5.read_unread,
    h6.read_unread, h7.read_unread, View.ld_unit_zero (S := S1x256x512) hz3, View.ld_unit_zero (S := S1x1x512) hz3,
    View.ld_unit_zero (S := S1x4) hz2, shapeCast_self]
  rw [pay1_eq]

end

end Cert.Proof

end

end
-- ==== Proof.Region.lean ====
/-
  What the loss kernel leaves in its result array, over the extended reals: in each of its four places the sum over the
  whole batch of that round's masked squared errors (`errs`), the grid's running sums (`outsAt_eq`, by induction on the
  point) opened as one sum over the three coordinates.
-/
module

public import proofs.«01_k».proof.Proof.Tile
public import Idealize.ShloMosaic.Lib.Tactic

@[expose] public section

noncomputable section

open Idealize.ShloMosaic Idealize.ShloMosaic.TcCoe Idealize.SL.Sem
open Idealize.ShloMosaic.Pipeline (Dat)

namespace Cert.Proof

open Cert.KernelIdeal Cert.KernelIdeal.Gen

variable (m : (ℓ : Loc nD τ sig) → Buf (Elt Ideal) ℓ)

/-- One round's masked squared error over the whole batch. -/
def errs (x f : Vec Ideal S16x256x512 .f32) (k : Vec Ideal S16x1x512 .f32) : EReal :=
  ∑ p : S16x256x512.Idx, (x p - f p) * (x p - f p) * k (ix3 (p 0) 0 (p 2))

/-- Batch row `t` of a [16,256,512] array, as a block. -/
def blockOf (x : Vec Ideal S16x256x512 .f32) (t : Fin 16) : Vec Ideal S1x256x512 .f32 := fun p => x (ix3 t (p 1) (p 2))

/-- Batch row `t` of a [16,1,512] array, as a block. -/
def maskOf (k : Vec Ideal S16x1x512 .f32) (t : Fin 16) : Vec Ideal S1x1x512 .f32 := fun p => k (ix3 t 0 (p 2))

/-- The whole batch's sum is the sum of its rows' sums. -/
theorem errs_eq (x f : Vec Ideal S16x256x512 .f32) (k : Vec Ideal S16x1x512 .f32) :
    errs x f k = ∑ t : Fin 16, tile (blockOf x t) (blockOf f t) (maskOf k t) := by
  unfold errs tile blockOf maskOf
  refine (sum_idx3 _).trans (Finset.sum_congr rfl fun t _ => ?_)
  refine Eq.trans ?_ (sum_idx3 _).symm
  rw [Fin.sum_univ_one]
  rfl

/-- The grid's point as a batch row. -/
abbrev rowOf (t : Fin cfg0.N) : Fin 16 := ⟨t.val, lt_of_lt_of_eq t.isLt (show cfg0.N = 16 from N_0)⟩

/-- Every input window's block at point `t` starts at batch row `t`. -/
theorem index_block (t : Fin cfg0.N) : cc0_transform_0 (grid0.coords t) = ![t.val, 0, 0] := by
  revert t; decide +kernel

theorem read0_eq (A : Vec Ideal S16x256x512 .f32) (t : Fin cfg0.N) :
    (((cfg0.win 0).blk t).view.read (Elt Ideal) A : Vec Ideal S1x256x512 .f32) = blockOf A (rowOf t) := by
  funext p
  unfold blockOf
  rw [View.read_apply]
  refine congrArg A (funext fun a => Fin.ext ?_)
  have h := congrFun (index_block t)
  match a with
  | ⟨0, _⟩ => show cc0_transform_0 (grid0.coords t) 0 * 1 + 1 * (p 0).val = t.val; have : (p 0).val < 1 := (p 0).isLt; rw [h 0]; show t.val * 1 + _ = _; omega
  | ⟨1, _⟩ => show cc0_transform_0 (grid0.coords t) 1 * 256 + 1 * (p 1).val = (p 1).val; rw [h 1]; show 0 * 256 + _ = _; omega
  | ⟨2, _⟩ => show cc0_transform_0 (grid0.coords t) 2 * 512 + 1 * (p 2).val = (p 2).val; rw [h 2]; show 0 * 512 + _ = _; omega

theorem read1_eq (A : Vec Ideal S16x256x512 .f32) (t : Fin cfg0.N) :
    (((cfg0.win 1).blk t).view.read (Elt Ideal) A : Vec Ideal S1x256x512 .f32) = blockOf A (rowOf t) := read0_eq A t

theorem read2_eq (A : Vec Ideal S16x256x512 .f32) (t : Fin cfg0.N) :
    (((cfg0.win 2).blk t).view.read (Elt Ideal) A : Vec Ideal S1x256x512 .f32) = blockOf A (rowOf t) := read0_eq A t

theorem read3_eq (A : Vec Ideal S16x256x512 .f32) (t : Fin cfg0.N) :
    (((cfg0.win 3).blk t).view.read (Elt Ideal) A : Vec Ideal S1x256x512 .f32) = blockOf A (rowOf t) := read0_eq A t

theorem read4_eq (A : Vec Ideal S16x256x512 .f32) (t : Fin cfg0.N) :
    (((cfg0.win 4).blk t).view.read (Elt Ideal) A : Vec Ideal S1x256x512 .f32) = blockOf A (rowOf t) := read0_eq A t

theorem read5_eq (A : Vec Ideal S16x1x512 .f32) (t : Fin cfg0.N) :
    (((cfg0.win 5).blk t).view.read (Elt Ideal) A : Vec Ideal S1x1x512 .f32) = maskOf A (rowOf t) := by
  funext p
  unfold maskOf
  rw [View.read_apply]
  refine congrArg A (funext fun a => Fin.ext ?_)
  have h := congrFun (index_block t)
  match a with
  | ⟨0, _⟩ => show cc0_transform_0 (grid0.coords t) 0 * 1 + 1 * (p 0).val = t.val; have : (p 0).val < 1 := (p 0).isLt; rw [h 0]; show t.val * 1 + _ = _; omega
  | ⟨1, _⟩ => show cc0_transform_0 (grid0.coords t) 1 * 1 + 1 * (p 1).val = 0; have : (p 1).val < 1 := (p 1).isLt; rw [h 1]; show 0 * 1 + _ = _; omega
  | ⟨2, _⟩ => show cc0_transform_0 (grid0.coords t) 2 * 512 + 1 * (p 2).val = (p 2).val; rw [h 2]; show 0 * 512 + _ = _; omega

/-- The four sums of the block at point `t`. -/
def pt (c : Dev nD) (t : Fin cfg0.N) : Fin 4 → EReal :=
  tiles (iblk m c 0 t) (iblk m c 1 t) (iblk m c 2 t) (iblk m c 3 t) (iblk m c 4 t) (iblk m c 5 t)

/-- The output's buffer after point `n` holds the sums of the blocks up to it. -/
theorem outsAt_eq (c : Dev nD) : ∀ (n : ℕ) (h : n < cfg0.N), outsAt0 m c n h
    = row fun k => ∑ t : Fin (n + 1), pt m c ⟨t.val, lt_of_le_of_lt (Nat.lt_succ_iff.mp t.isLt) h⟩ k
  | 0, h => by
    refine (outsAt0_A m c ⟨0, h⟩ rfl (by simp)).trans ((out_A ..).trans ?_)
    refine congrArg row (funext fun k => ?_)
    rw [Fin.sum_univ_one]
    rfl
  | n + 1, h => by
    have hN : cfg0.N = 16 := N_0
    have h0 : ¬(⟨n + 1, h⟩ : Fin cfg0.N).val % 16 = 0 := by dsimp only; omega
    refine (outsAt0_B m c ⟨n + 1, h⟩ h0 (by simp)).trans ((out_B ..).trans ?_)
    show addf (outsAt0 m c n _) _ = _
    rw [outsAt_eq c n]
    funext j
    show _ + _ = ∑ t : Fin (n + 1 + 1), _
    rw [Fin.sum_univ_castSucc]
    rfl

/-- The result array: the four sums over the whole grid. -/
abbrev sums (c : Dev nD) : Fin 4 → EReal := fun k => ∑ t : Fin 16, pt m c ⟨t.val, lt_of_lt_of_eq t.isLt N_0.symm⟩ k

/-- The one write-back, at the last point, writes the four sums. -/
theorem flushed_eq (c : Dev nD) (t : Fin cfg0.N) (hf : (cfg0.win 6).flush t = true) :
    (dats m 0 c).flushed 6 t = ((cfg0.win 6).blk t).view.read (Elt Ideal) (row (sums m c)) := by
  have hN : cfg0.N = 16 := N_0
  have h3 : t.val = 15 := by have := (flush0_6 t).mp hf; have := t.isLt; omega
  obtain rfl : t = t0_15 := Fin.ext h3
  show (cfg0.win 6).cut (grid0.coords t0_15) ((dats m 0 c).after 6 t0_15) = _
  rw [after0_6, outsAt_eq]
  have hz' : (fun a => win0_6.index t0_15 a * main_v317.ty.shape.size a) = fun _ => 0 := funext fun a => by fin_cases a <;> decide
  exact (Memref.read_access_unit_zero (Elt Ideal) main_v317 hz' (fun a => by rw [congrFun hz' a]; simp) (row (sums m c))).symm

/-- So the result array ends holding the four sums. -/
theorem final_sums (c : Dev nD) : (dats m 0 c).arrAt 6 cfg0.N = row (sums m c) :=
  (dats m 0 c).arrAt_eq_of_cover 6 (row (sums m c)) (flushed_eq m c) fun i =>
    ⟨t0_15, (flush0_6 t0_15).mpr rfl, by
      show i ∈ ((View.whole main_v317).slice (win0_6.rect t0_15)).set
      rw [View.set_slice_whole, Rect.mem_set_unit]
      intro a
      have h0 : (i 0 : Nat) < 1 := (i 0).isLt
      have h1 : (i 1 : Nat) < 4 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 1 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 4 from by decide +kernel]; omega⟩

/-- The block the body finds in window `w` at point `t`, off any name for what the call finds in memory. -/
theorem iblk_of (c : Dev nD) (w : Fin cfg0.W) (t : Fin cfg0.N) (W : (b : Ref sig .tc) → Buf (Elt Ideal) ((c : Thread nD τ).loc b))
    (h : V m c = W) : iblk m c w t = ((cfg0.win w).blk t).view.read (Elt Ideal) (W (Pipeline.arrRef spec0 w)) := by
  subst h
  exact rfl

theorem iblk0_eq (c : Dev nD) (t : Fin cfg0.N) (W : (b : Ref sig .tc) → Buf (Elt Ideal) ((c : Thread nD τ).loc b)) (h : V m c = W) :
    iblk m c 0 t = blockOf (W main_arg0) (rowOf t) := (iblk_of m c 0 t W h).trans (read0_eq (W main_arg0) t)

theorem iblk1_eq (c : Dev nD) (t : Fin cfg0.N) (W : (b : Ref sig .tc) → Buf (Elt Ideal) ((c : Thread nD τ).loc b)) (h : V m c = W) :
    iblk m c 1 t = blockOf (W main_v85) (rowOf t) := (iblk_of m c 1 t W h).trans (read1_eq (W main_v85) t)

theorem iblk2_eq (c : Dev nD) (t : Fin cfg0.N) (W : (b : Ref sig .tc) → Buf (Elt Ideal) ((c : Thread nD τ).loc b)) (h : V m c = W) :
    iblk m c 2 t = blockOf (W main_v162) (rowOf t) := (iblk_of m c 2 t W h).trans (read2_eq (W main_v162) t)

theorem iblk3_eq (c : Dev nD) (t : Fin cfg0.N) (W : (b : Ref sig .tc) → Buf (Elt Ideal) ((c : Thread nD τ).loc b)) (h : V m c = W) :
    iblk m c 3 t = blockOf (W main_v239) (rowOf t) := (iblk_of m c 3 t W h).trans (read3_eq (W main_v239) t)

theorem iblk4_eq (c : Dev nD) (t : Fin cfg0.N) (W : (b : Ref sig .tc) → Buf (Elt Ideal) ((c : Thread nD τ).loc b)) (h : V m c = W) :
    iblk m c 4 t = blockOf (W main_v316) (rowOf t) := (iblk_of m c 4 t W h).trans (read4_eq (W main_v316) t)

theorem iblk5_eq (c : Dev nD) (t : Fin cfg0.N) (W : (b : Ref sig .tc) → Buf (Elt Ideal) ((c : Thread nD τ).loc b)) (h : V m c = W) :
    iblk m c 5 t = maskOf (W main_v10) (rowOf t) := (iblk_of m c 5 t W h).trans (read5_eq (W main_v10) t)

theorem pt_eq (c : Dev nD) (t : Fin cfg0.N) (W : (b : Ref sig .tc) → Buf (Elt Ideal) ((c : Thread nD τ).loc b)) (h : V m c = W) :
    pt m c t
    = tiles (blockOf (W main_arg0) (rowOf t)) (blockOf (W main_v85) (rowOf t)) (blockOf (W main_v162) (rowOf t))
        (blockOf (W main_v239) (rowOf t)) (blockOf (W main_v316) (rowOf t)) (maskOf (W main_v10) (rowOf t)) := by
  have e0 := iblk0_eq m c t W h
  have e1 := iblk1_eq m c t W h
  have e2 := iblk2_eq m c t W h
  have e3 := iblk3_eq m c t W h
  have e4 := iblk4_eq m c t W h
  have e5 := iblk5_eq m c t W h
  unfold pt
  rw [e0, e1, e2, e3, e4, e5]

/-- Four sums side by side are the sum of the rows. -/
theorem sum_four (a b c d : Fin 16 → EReal) (r : Fin 4) :
    ∑ t, ![a t, b t, c t, d t] r = ![∑ t, a t, ∑ t, b t, ∑ t, c t, ∑ t, d t] r := by
  fin_cases r <;> rfl

/-- The four sums, round by round, in terms of the arrays the call finds. -/
theorem sums_eq (c : Dev nD) (W : (b : Ref sig .tc) → Buf (Elt Ideal) ((c : Thread nD τ).loc b)) (h : V m c = W)
    (x f0 f1 f2 f3 : Vec Ideal S16x256x512 .f32) (k : Vec Ideal S16x1x512 .f32)
    (hx : W main_arg0 = x) (h0 : W main_v85 = f0) (h1 : W main_v162 = f1) (h2 : W main_v239 = f2)
    (h3 : W main_v316 = f3) (hk : W main_v10 = k) :
    sums m c = ![errs x f0 k, errs x f1 k, errs x f2 k, errs x f3 k] := by
  have e (t : Fin cfg0.N) : pt m c t = tiles (blockOf x (rowOf t)) (blockOf f0 (rowOf t)) (blockOf f1 (rowOf t))
      (blockOf f2 (rowOf t)) (blockOf f3 (rowOf t)) (maskOf k (rowOf t)) := by
    rw [pt_eq m c t W h, hx, h0, h1, h2, h3, hk]
  rw [errs_eq x f0 k, errs_eq x f1 k, errs_eq x f2 k, errs_eq x f3 k]
  funext r
  unfold sums
  simp only [e]
  exact sum_four _ _ _ _ r

end Cert.Proof

end

end
-- ==== Proof.Losses.lean ====
/-
  The losses. Each of the reference's four losses is one reduction over the whole batch divided by the count of live
  positions; the kernel divides the four sums its call returns by the same count. Over the extended reals the
  reference's reduction is the sum `errs`.
-/
module

public import proofs.«01_k».proof.Proof.RefRun
public import proofs.«01_k».proof.Proof.Region

@[expose] public section

set_option maxRecDepth 20000
set_option maxHeartbeats 1000000

noncomputable section

namespace Cert.Proof

open Idealize.ShloMosaic Idealize.ShloMosaic.StableHlo Idealize.SL.Sem Cert.KernelIdeal Cert.KernelIdeal.Gen

/-- The mask with a unit channel axis. -/
def mask3 (k : Vec Ideal S16x512 .f32) : Vec Ideal S16x1x512 .f32 :=
  broadcastInDim S16x1x512 ![0, 2] bcast_S16x512_S16x1x512_0_2 k

/-- The zero the sums start from. -/
abbrev zero0 : FVec Ideal S_ .f32 := constant (F := Ideal) S_ .f32 0x00000000#32

/-- The count the losses are divided by: the live positions times 512. -/
def denom (k : Vec Ideal S16x512 .f32) : FVec Ideal S_ .f32 :=
  mulf (Host.reduceAdd (mask3 k) zero0 reducesTo_S16x1x512_S_d0_1_2 h_S_ : FVec Ideal S_ .f32) (constant S_ .f32 0x44000000#32)

/-- A number divided by the count. -/
def share (s : EReal) (k : Vec Ideal S16x512 .f32) : FVec Ideal S_ .f32 :=
  Host.divf ((fun _ => s) : FVec Ideal S_ .f32) (denom k : FVec Ideal S_ .f32)

variable [Cert.ReferenceIdeal.Facts]

/-- The mask that the kernel hands to its call. -/
theorem kern0_mask (V : Valuation τ sig (Elt Ideal)) :
    after kern0 V (Proc.devRef .tc main_v10) = mask3 (after kern0 V (Proc.devRef .tc main_v7)) := by
  unfold mask3
  simp only [kern0, List.cons_append, List.nil_append]
  after_results_simp

/-- The count that the kernel divides by. -/
theorem kern0_denom (V : Valuation τ sig (Elt Ideal)) :
    after kern0 V (Proc.devRef .tc main_v12) = denom (after kern0 V (Proc.devRef .tc main_v7)) := by
  unfold denom mask3
  simp only [kern0, List.cons_append, List.nil_append]
  after_results_simp

/-- The masked squared error, entry by entry. -/
def sq (x f : FVec Ideal S16x256x512 .f32) (k : Vec Ideal S16x1x512 .f32) : FVec Ideal S16x256x512 .f32 :=
  mulf (mulf (subf x f) (subf x f))
    (broadcastInDim S16x256x512 ![0, 1, 2] Cert.ReferenceIdeal.Facts₀.bcast_S16x1x512_S16x256x512_0_1_2 k : FVec Ideal S16x256x512 .f32)

/-- The reference's loss of one round. -/
def loss (x f : FVec Ideal S16x256x512 .f32) (k : Vec Ideal S16x512 .f32) : FVec Ideal S_ .f32 :=
  Host.divf (Host.reduceAdd (sq x f (mask3 k)) zero0 Cert.ReferenceIdeal.Facts₀.reducesTo_S16x256x512_S_d0_1_2 h_S_ : FVec Ideal S_ .f32) (denom k)

/-- The masked squared error at one place. -/
theorem sq_apply (x f : FVec Ideal S16x256x512 .f32) (k : Vec Ideal S16x1x512 .f32) (p : S16x256x512.Idx) :
    sq x f k p = (x p - f p) * (x p - f p) * k (ix3 (p 0) 0 (p 2)) := by
  refine congrArg (fun y : EReal => (x p - f p) * (x p - f p) * y) ?_
  unfold broadcastInDim
  congr 1
  funext a
  match a with
  | ⟨0, _⟩ => rfl
  | ⟨1, _⟩ => rfl
  | ⟨2, _⟩ => rfl

/-- The reference's loss is the sum of the masked squared errors over the count. -/
theorem loss_eq (x f : FVec Ideal S16x256x512 .f32) (k : Vec Ideal S16x512 .f32) :
    loss x f k = share (errs x f (mask3 k)) k := by
  unfold loss share
  refine congrArg (fun y : FVec Ideal S_ .f32 => Host.divf y (denom k)) (funext fun j => ?_)
  refine (Ideal.hostReduceAdd_total _ (fun b => b.elim0) (sq x f (mask3 k)) _ j).trans ?_
  rw [show (zero0 (Shape.Idx.first h_S_) : EReal) = 0 from Ideal.ofBits_zero_f32, zero_add]
  exact Finset.sum_congr rfl fun p _ => sq_apply x f (mask3 k) p

end Cert.Proof

end

end
-- ==== Proof.RefLoss.lean ====
/-
  The reference's results. Its memory before the last stretch (`refMem`) holds the three earlier running losses and the four
  rounds' outputs; each running loss is read off the end of its own stretch and stays to the end.
-/
module

public import proofs.«01_k».proof.Proof.Losses

@[expose] public section

set_option maxRecDepth 20000
set_option maxHeartbeats 1000000

noncomputable section

namespace Cert.Proof

open Idealize.ShloMosaic Idealize.ShloMosaic.StableHlo Idealize.SL.Sem Cert.KernelIdeal Cert.KernelIdeal.Gen

variable [Cert.ReferenceIdeal.Facts]

/-- The memories of the reference. -/
abbrev RefVal : Type := Valuation ReferenceIdeal.τ ReferenceIdeal.sig (Elt Ideal)

/-- The end of the stretch with the first loss. -/
def end1 : {l // Ref.refs1.1.drop 90 = l} := by
  apply Subtype.mk
  conv_lhs => simp only [Ref.refs1, List.drop_succ_cons, List.drop_zero]

/-- The second stretch, cut before its loss. -/
theorem refs1_cut : Ref.refs1.1 = Ref.refs1.1.take 90 ++ end1.1 :=
  (List.take_append_drop 90 _).symm.trans (congrArg (fun l => Ref.refs1.1.take 90 ++ l) end1.2)

/-- The end of the stretch with the second loss. -/
def end3 : {l // Ref.refs3.1.drop 90 = l} := by
  apply Subtype.mk
  conv_lhs => simp only [Ref.refs3, List.drop_succ_cons, List.drop_zero]

/-- The fourth stretch, cut before its loss. -/
theorem refs3_cut : Ref.refs3.1 = Ref.refs3.1.take 90 ++ end3.1 :=
  (List.take_append_drop 90 _).symm.trans (congrArg (fun l => Ref.refs3.1.take 90 ++ l) end3.2)

/-- The end of the stretch with the third loss. -/
def end5 : {l // Ref.refs5.1.drop 90 = l} := by
  apply Subtype.mk
  conv_lhs => simp only [Ref.refs5, List.drop_succ_cons, List.drop_zero]

/-- The sixth stretch, cut before its loss. -/
theorem refs5_cut : Ref.refs5.1 = Ref.refs5.1.take 90 ++ end5.1 :=
  (List.take_append_drop 90 _).symm.trans (congrArg (fun l => Ref.refs5.1.take 90 ++ l) end5.2)

/-- The first loss, from what its stretch leaves. -/
theorem refs1_loss (V : RefVal) : after Ref.refs1.1 V (Proc.devRef .tc ReferenceIdeal.main_v92)
    = (addf zero0
        (loss (after Ref.refs1.1 V (Proc.devRef .tc ReferenceIdeal.main_arg0)) (after Ref.refs1.1 V (Proc.devRef .tc ReferenceIdeal.main_v82))
          (after Ref.refs1.1 V (Proc.devRef .tc ReferenceIdeal.main_v7))) : FVec Ideal S_ .f32) := by
  rw [refs1_cut, after_append]
  generalize after (List.take 90 Ref.refs1.1) V = W
  simp only [end1]
  after_results_simp
  rfl

/-- The second running loss, from what its stretch leaves. -/
theorem refs3_loss (V : RefVal) : after Ref.refs3.1 V (Proc.devRef .tc ReferenceIdeal.main_v179)
    = (addf (after Ref.refs3.1 V (Proc.devRef .tc ReferenceIdeal.main_v92) : FVec Ideal S_ .f32)
        (loss (after Ref.refs3.1 V (Proc.devRef .tc ReferenceIdeal.main_arg0)) (after Ref.refs3.1 V (Proc.devRef .tc ReferenceIdeal.main_v169))
          (after Ref.refs3.1 V (Proc.devRef .tc ReferenceIdeal.main_v7))) : FVec Ideal S_ .f32) := by
  rw [refs3_cut, after_append]
  generalize after (List.take 90 Ref.refs3.1) V = W
  simp only [end3]
  after_results_simp
  rfl

/-- The third running loss, from what its stretch leaves. -/
theorem refs5_loss (V : RefVal) : after Ref.refs5.1 V (Proc.devRef .tc ReferenceIdeal.main_v266)
    = (addf (after Ref.refs5.1 V (Proc.devRef .tc ReferenceIdeal.main_v179) : FVec Ideal S_ .f32)
        (loss (after Ref.refs5.1 V (Proc.devRef .tc ReferenceIdeal.main_arg0)) (after Ref.refs5.1 V (Proc.devRef .tc ReferenceIdeal.main_v256))
          (after Ref.refs5.1 V (Proc.devRef .tc ReferenceIdeal.main_v7))) : FVec Ideal S_ .f32) := by
  rw [refs5_cut, after_append]
  generalize after (List.take 90 Ref.refs5.1) V = W
  simp only [end5]
  after_results_simp
  rfl

/-- The last stretch's running loss. -/
theorem refs8_loss (V : RefVal) : after Ref.refs8.1 V (Proc.devRef .tc ReferenceIdeal.main_v353)
    = (addf (V (Proc.devRef .tc ReferenceIdeal.main_v266) : FVec Ideal S_ .f32)
        (loss (V (Proc.devRef .tc ReferenceIdeal.main_arg0)) (V (Proc.devRef .tc ReferenceIdeal.main_v343))
          (V (Proc.devRef .tc ReferenceIdeal.main_v7))) : FVec Ideal S_ .f32) := by
  simp only [Ref.refs8]
  after_results_simp
  rfl

/-- The first result: the input plus the difference of the last output from it. -/
def straight (x f : FVec Ideal S16x256x512 .f32) : FVec Ideal S16x256x512 .f32 := addf x (subf f x)

/-- The first result, from the memory before the last stretch. -/
theorem refs8_out (V : RefVal) : after Ref.refs8.1 V (Proc.devRef .tc ReferenceIdeal.main_v355)
    = straight (V (Proc.devRef .tc ReferenceIdeal.main_arg0)) (V (Proc.devRef .tc ReferenceIdeal.main_v343)) := by
  simp only [Ref.refs8]
  after_results_simp
  rfl

/-- What the second stretch leaves stays. -/
theorem refMem_keep1 (V : RefVal) {b : Ref ReferenceIdeal.sig .tc} (hb : b.idx.val < 178) :
    refMem V (Proc.devRef .tc b) = after Ref.refs1.1 (after Ref.refs0.1 V) (Proc.devRef .tc b) := by
  unfold refMem
  rw [refs7_above.keep _ (by omega), refs6_above.keep _ (by omega), refs5_above.keep _ (by omega), refs4_above.keep _ (by omega),
    refs3_above.keep _ (by omega), refs2_above.keep _ (by omega)]

/-- What the fourth stretch leaves stays. -/
theorem refMem_keep3 (V : RefVal) {b : Ref ReferenceIdeal.sig .tc} (hb : b.idx.val < 336) :
    refMem V (Proc.devRef .tc b)
      = after Ref.refs3.1 (after Ref.refs2.1 (after Ref.refs1.1 (after Ref.refs0.1 V))) (Proc.devRef .tc b) := by
  unfold refMem
  rw [refs7_above.keep _ (by omega), refs6_above.keep _ (by omega), refs5_above.keep _ (by omega), refs4_above.keep _ (by omega)]

/-- What the sixth stretch leaves stays. -/
theorem refMem_keep5 (V : RefVal) {b : Ref ReferenceIdeal.sig .tc} (hb : b.idx.val < 494) :
    refMem V (Proc.devRef .tc b)
      = after Ref.refs5.1 (after Ref.refs4.1 (after Ref.refs3.1 (after Ref.refs2.1 (after Ref.refs1.1 (after Ref.refs0.1 V)))))
          (Proc.devRef .tc b) := by
  unfold refMem
  rw [refs7_above.keep _ (by omega), refs6_above.keep _ (by omega)]

/-- The first loss in the memory before the last stretch. -/
theorem refMem_first (V : RefVal) : refMem V (Proc.devRef .tc ReferenceIdeal.main_v92)
    = (addf zero0
        (loss (refMem V (Proc.devRef .tc ReferenceIdeal.main_arg0)) (refMem V (Proc.devRef .tc ReferenceIdeal.main_v82))
          (refMem V (Proc.devRef .tc ReferenceIdeal.main_v7))) : FVec Ideal S_ .f32) := by
  rw [refMem_keep1 V (b := ReferenceIdeal.main_v92) (by decide), refMem_keep1 V (b := ReferenceIdeal.main_arg0) (by decide), refMem_keep1 V (b := ReferenceIdeal.main_v82) (by decide), refMem_keep1 V (b := ReferenceIdeal.main_v7) (by decide)]
  exact refs1_loss _

/-- The second running loss there. -/
theorem refMem_second (V : RefVal) : refMem V (Proc.devRef .tc ReferenceIdeal.main_v179)
    = (addf (refMem V (Proc.devRef .tc ReferenceIdeal.main_v92) : FVec Ideal S_ .f32)
        (loss (refMem V (Proc.devRef .tc ReferenceIdeal.main_arg0)) (refMem V (Proc.devRef .tc ReferenceIdeal.main_v169))
          (refMem V (Proc.devRef .tc ReferenceIdeal.main_v7))) : FVec Ideal S_ .f32) := by
  rw [refMem_keep3 V (b := ReferenceIdeal.main_v179) (by decide), refMem_keep3 V (b := ReferenceIdeal.main_v92) (by decide), refMem_keep3 V (b := ReferenceIdeal.main_arg0) (by decide), refMem_keep3 V (b := ReferenceIdeal.main_v169) (by decide), refMem_keep3 V (b := ReferenceIdeal.main_v7) (by decide)]
  exact refs3_loss _

/-- The third running loss there. -/
theorem refMem_third (V : RefVal) : refMem V (Proc.devRef .tc ReferenceIdeal.main_v266)
    = (addf (refMem V (Proc.devRef .tc ReferenceIdeal.main_v179) : FVec Ideal S_ .f32)
        (loss (refMem V (Proc.devRef .tc ReferenceIdeal.main_arg0)) (refMem V (Proc.devRef .tc ReferenceIdeal.main_v256))
          (refMem V (Proc.devRef .tc ReferenceIdeal.main_v7))) : FVec Ideal S_ .f32) := by
  rw [refMem_keep5 V (b := ReferenceIdeal.main_v266) (by decide), refMem_keep5 V (b := ReferenceIdeal.main_v179) (by decide), refMem_keep5 V (b := ReferenceIdeal.main_arg0) (by decide), refMem_keep5 V (b := ReferenceIdeal.main_v256) (by decide), refMem_keep5 V (b := ReferenceIdeal.main_v7) (by decide)]
  exact refs5_loss _

/-- The reference's second result: the four losses added up in order. -/
theorem ref_loss (V : RefVal) (x f0 f1 f2 f3 : FVec Ideal S16x256x512 .f32) (k : Vec Ideal S16x512 .f32)
    (hx : refMem V (Proc.devRef .tc ReferenceIdeal.main_arg0) = x) (h0 : refMem V (Proc.devRef .tc ReferenceIdeal.main_v82) = f0)
    (h1 : refMem V (Proc.devRef .tc ReferenceIdeal.main_v169) = f1) (h2 : refMem V (Proc.devRef .tc ReferenceIdeal.main_v256) = f2)
    (h3 : refMem V (Proc.devRef .tc ReferenceIdeal.main_v343) = f3) (hk : refMem V (Proc.devRef .tc ReferenceIdeal.main_v7) = k) :
    after Ref.parts.1.flatten V (Proc.devRef .tc ReferenceIdeal.main_v353)
      = (addf (addf (addf (addf zero0 (loss x f0 k)) (loss x f1 k)) (loss x f2 k)) (loss x f3 k) : FVec Ideal S_ .f32) := by
  rw [all_after, refs8_loss, refMem_third, refMem_second, refMem_first, hx, h0, h1, h2, h3, hk]

/-- The reference's first result. -/
theorem ref_out (V : RefVal) (x f3 : FVec Ideal S16x256x512 .f32)
    (hx : refMem V (Proc.devRef .tc ReferenceIdeal.main_arg0) = x) (h3 : refMem V (Proc.devRef .tc ReferenceIdeal.main_v343) = f3) :
    after Ref.parts.1.flatten V (Proc.devRef .tc ReferenceIdeal.main_v355) = straight x f3 := by
  rw [all_after, refs8_out, hx, h3]

end Cert.Proof

end

end
-- ==== Proof.Tail.lean ====
/-
  The kernel's operations after its call: the four sums are cut out of the call's row, each divided by the count, and added
  up in order.
-/
module

public import proofs.«01_k».proof.Proof.RefLoss

@[expose] public section

set_option maxRecDepth 20000
set_option maxHeartbeats 1000000

noncomputable section

namespace Cert.Proof

open Idealize.ShloMosaic Idealize.ShloMosaic.StableHlo Idealize.SL.Sem Cert.KernelIdeal Cert.KernelIdeal.Gen

/-- Place `n` of the row, cut out and read as a scalar. -/
theorem cut_eq (s : Fin 4 → EReal) (n : Fin 4) (h : S4.Slices ![n.val] S1) (j : S_.Idx) :
    shapeCast S_ (extractStridedSlice S1 ![n.val] (shapeCast S4 (row s) shapeCasts_S1x4_S4) h) shapeCasts_S1_S_ j = s n := by
  refine (shapeCast_apply _ _ j (ix1 0) ?_).trans ?_
  · obtain rfl : j = ix0 := funext fun a => a.elim0
    decide
  · unfold extractStridedSlice
    refine (shapeCast_apply _ _ _ (ix2 0 n) ?_).trans rfl
    revert h; fin_cases n <;> (intro h; clear j; rfl)

/-- The first result. -/
theorem tail_out (W : Valuation τ sig (Elt Ideal)) : after hostOps1 W (Proc.devRef .tc main_v336)
    = straight (W (Proc.devRef .tc main_arg0)) (W (Proc.devRef .tc main_v316)) := by
  unfold straight
  simp only [hostOps1]
  after_results_simp

/-- The second result, from the row of four sums and the count. -/
theorem tail_loss (W : Valuation τ sig (Elt Ideal)) (s : Fin 4 → EReal) (k : Vec Ideal S16x512 .f32)
    (hs : W (Proc.devRef .tc main_v317) = row s) (hk : W (Proc.devRef .tc main_v12) = denom k) :
    after hostOps1 W (Proc.devRef .tc main_v334)
      = (addf (addf (addf (addf zero0 (share (s 0) k)) (share (s 1) k)) (share (s 2) k)) (share (s 3) k) : FVec Ideal S_ .f32) := by
  simp only [hostOps1]
  after_results_simp
  rw [hs, hk]
  have c0 : (fun j => shapeCast S_ (extractStridedSlice S1 ![0] (shapeCast S4 (row s) shapeCasts_S1x4_S4) slices_S4_S1_0) shapeCasts_S1_S_ j)
      = fun _ => s 0 := funext (cut_eq s 0 slices_S4_S1_0)
  have c1 : (fun j => shapeCast S_ (extractStridedSlice S1 ![1] (shapeCast S4 (row s) shapeCasts_S1x4_S4) slices_S4_S1_1) shapeCasts_S1_S_ j)
      = fun _ => s 1 := funext (cut_eq s 1 slices_S4_S1_1)
  have c2 : (fun j => shapeCast S_ (extractStridedSlice S1 ![2] (shapeCast S4 (row s) shapeCasts_S1x4_S4) slices_S4_S1_2) shapeCasts_S1_S_ j)
      = fun _ => s 2 := funext (cut_eq s 2 slices_S4_S1_2)
  have c3 : (fun j => shapeCast S_ (extractStridedSlice S1 ![3] (shapeCast S4 (row s) shapeCasts_S1x4_S4) slices_S4_S1_3) shapeCasts_S1_S_ j)
      = fun _ => s 3 := funext (cut_eq s 3 slices_S4_S1_3)
  unfold share
  rw [← c0, ← c1, ← c2, ← c3]
  rfl

/-- The same with the four sums named one by one. -/
theorem tail_loss_four (W : Valuation τ sig (Elt Ideal)) (s0 s1 s2 s3 : EReal) (k : Vec Ideal S16x512 .f32)
    (hs : W (Proc.devRef .tc main_v317) = row ![s0, s1, s2, s3]) (hk : W (Proc.devRef .tc main_v12) = denom k) :
    after hostOps1 W (Proc.devRef .tc main_v334)
      = (addf (addf (addf (addf zero0 (share s0 k)) (share s1 k)) (share s2 k)) (share s3 k) : FVec Ideal S_ .f32) :=
  tail_loss W ![s0, s1, s2, s3] k hs hk

end Cert.Proof

end

end
-- ==== Proof.Chain.lean ====
/-
  The kernel's memory before its call, stretch by stretch, beside the reference's: the two agree on everything the results
  are read from.
-/
module

public import proofs.«01_k».proof.Proof.Tail

@[expose] public section

set_option maxRecDepth 20000
set_option maxHeartbeats 1000000

noncomputable section

namespace Cert.Proof

open Idealize.ShloMosaic Idealize.ShloMosaic.TcCoe Idealize.ShloMosaic.StableHlo Idealize.SL.Sem Cert.KernelIdeal Cert.KernelIdeal.Gen

/-- The kernel's memory before its call. -/
def kernMem (V : Valuation τ sig (Elt Ideal)) : Valuation τ sig (Elt Ideal) :=
  after kern7 (after kern6 (after kern5 (after kern4 (after kern3 (after kern2 (after kern1 (after kern0 V)))))))

/-- The operations before the call are the eight stretches. -/
theorem kern_after (m : (ℓ : Loc nD τ sig) → Buf (Elt Ideal) ℓ) (c : Dev nD) : V0 m c = kernMem (launchContents m c) := by
  unfold kernMem V0
  simp only [kern0, kern1, kern2, kern3, kern4, kern5, kern6, kern7, List.flatten_cons, List.flatten_nil, List.append_nil, after_append]

variable [Cert.ReferenceIdeal.Facts]

/-- What the first stretch leaves stays to the call. -/
theorem kernMem_keep (V : Valuation τ sig (Elt Ideal)) {b : Ref sig .tc} (hb : b.idx.val < 69) :
    kernMem V (Proc.devRef .tc b) = after kern0 V (Proc.devRef .tc b) := by
  unfold kernMem
  rw [kern7_above.keep _ (by omega), kern6_above.keep _ (by omega), kern5_above.keep _ (by omega), kern4_above.keep _ (by omega),
    kern3_above.keep _ (by omega), kern2_above.keep _ (by omega), kern1_above.keep _ (by omega)]

/-- The mask at the call. -/
theorem kernMem_mask (V : Valuation τ sig (Elt Ideal)) :
    kernMem V (Proc.devRef .tc main_v10) = mask3 (kernMem V (Proc.devRef .tc main_v7)) := by
  rw [kernMem_keep V (b := main_v10) (by decide), kernMem_keep V (b := main_v7) (by decide)]
  exact kern0_mask V

/-- The count at the call. -/
theorem kernMem_denom (V : Valuation τ sig (Elt Ideal)) :
    kernMem V (Proc.devRef .tc main_v12) = denom (kernMem V (Proc.devRef .tc main_v7)) := by
  rw [kernMem_keep V (b := main_v12) (by decide), kernMem_keep V (b := main_v7) (by decide)]
  exact kern0_denom V

/-- From agreeing arguments the two memories agree on all the pairs. -/
theorem same_all (V : Valuation τ sig (Elt Ideal)) (V' : RefVal) (h : Same pairsArgs V V') : Same pairs7 (kernMem V) (refMem V') :=
  same7 _ _ (same6 _ _ (same5 _ _ (same4 _ _ (same3 _ _ (same2 _ _ (same1 _ _ (same0 _ _ h)))))))

variable (m : (ℓ : Loc nD τ sig) → Buf (Elt Ideal) ℓ)

/-- The memory after the call, off any name for the memory before it. -/
abbrev callMem (c : Dev nD) (V : Valuation τ sig (Elt Ideal)) : Valuation τ sig (Elt Ideal) :=
  Pipeline.withArrays (cfgs 0).spec c V fun w => (dats m 0 c).arrAt w (cfgs 0).N

/-- The call leaves the row of four sums. -/
theorem callMem_sums (c : Dev nD) (V : Valuation τ sig (Elt Ideal)) :
    callMem m c V (Proc.devRef .tc main_v317) = row (sums m c) :=
  (Pipeline.withArrays_arr spec0 launch0.win.arr_inj c V _ 6).trans (final_sums m c)

/-- It leaves its inputs alone. -/
theorem callMem_in (c : Dev nD) (W : Valuation τ sig (Elt Ideal)) (h : V0 m c = W) (w : Fin cfg0.W) (hw : (cfg0.win w).isOut = false) :
    callMem m c W (Proc.devRef .tc (Pipeline.arrRef spec0 w)) = W (Proc.devRef .tc (Pipeline.arrRef spec0 w)) := by
  subst h
  exact (Pipeline.withArrays_arr spec0 launch0.win.arr_inj c _ _ w).trans (((dats m 0 c).arrAt_in w hw _).trans (A_eq m c w))

/-- It leaves the count alone. -/
theorem callMem_denom (c : Dev nD) (W : Valuation τ sig (Elt Ideal)) :
    callMem m c W (Proc.devRef .tc main_v12) = W (Proc.devRef .tc main_v12) :=
  Pipeline.withArrays_of_ne spec0 c W _ main_v12 (by exact (by decide : ∀ w, Pipeline.arrRef spec0 w ≠ main_v12))

/-- The kernel's two results, in terms of what the memory before the call holds. -/
theorem kern_results (c : Dev nD) (W : Valuation τ sig (Elt Ideal)) (h : V0 m c = W)
    (x f0 f1 f2 f3 : FVec Ideal S16x256x512 .f32) (k : Vec Ideal S16x512 .f32)
    (hx : W (Proc.devRef .tc main_arg0) = x) (h0 : W (Proc.devRef .tc main_v85) = f0) (h1 : W (Proc.devRef .tc main_v162) = f1)
    (h2 : W (Proc.devRef .tc main_v239) = f2) (h3 : W (Proc.devRef .tc main_v316) = f3)
    (hk : W (Proc.devRef .tc main_v10) = mask3 k) (hd : W (Proc.devRef .tc main_v12) = denom k) :
    after hostOps1 (callMem m c W) (Proc.devRef .tc main_v336) = straight x f3
    ∧ after hostOps1 (callMem m c W) (Proc.devRef .tc main_v334)
      = (addf (addf (addf (addf zero0 (share (errs x f0 (mask3 k)) k)) (share (errs x f1 (mask3 k)) k)) (share (errs x f2 (mask3 k)) k))
          (share (errs x f3 (mask3 k)) k) : FVec Ideal S_ .f32) := by
  constructor
  · have a0 : callMem m c W (Proc.devRef .tc main_arg0) = x := (callMem_in m c W h 0 rfl).trans hx
    have a4 : callMem m c W (Proc.devRef .tc main_v316) = f3 := (callMem_in m c W h 4 rfl).trans h3
    rw [tail_out, a0, a4]
  · have hV : V m c = fun b => W (Proc.devRef .tc b) := by subst h; exact rfl
    have e := sums_eq m c (fun b => W (Proc.devRef .tc b)) hV x f0 f1 f2 f3 (mask3 k) hx h0 h1 h2 h3 hk
    have hs := (callMem_sums m c W).trans (congrArg row e)
    have hd' := (callMem_denom m c W).trans hd
    generalize callMem m c W = U at hs hd' ⊢
    generalize errs x f0 (mask3 k) = s0 at hs ⊢
    generalize errs x f1 (mask3 k) = s1 at hs ⊢
    generalize errs x f2 (mask3 k) = s2 at hs ⊢
    generalize errs x f3 (mask3 k) = s3 at hs ⊢
    exact tail_loss_four U s0 s1 s2 s3 k hs hd'

end Cert.Proof

end

end
-- ==== Proof.Meet.lean ====
/-
  Both programs leave the same results: the input corrected by the last output, and the four losses added up in order.
-/
module

public import proofs.«01_k».proof.Proof.Chain

@[expose] public section

set_option maxRecDepth 20000
set_option maxHeartbeats 1000000

noncomputable section

namespace Cert.Proof

open Idealize.ShloMosaic Idealize.ShloMosaic.TcCoe Idealize.ShloMosaic.StableHlo Idealize.SL.Sem Cert.KernelIdeal Cert.KernelIdeal.Gen

variable [Cert.ReferenceIdeal.Facts]

/-- The first result, from the kernel's memory before its call. -/
def out (W : Valuation τ sig (Elt Ideal)) : FVec Ideal S16x256x512 .f32 :=
  straight (W (Proc.devRef .tc main_arg0)) (W (Proc.devRef .tc main_v316))

/-- The second result, from the kernel's memory before its call. -/
def total (W : Valuation τ sig (Elt Ideal)) : FVec Ideal S_ .f32 :=
  addf (addf (addf (addf zero0
    (loss (W (Proc.devRef .tc main_arg0)) (W (Proc.devRef .tc main_v85)) (W (Proc.devRef .tc main_v7))))
    (loss (W (Proc.devRef .tc main_arg0)) (W (Proc.devRef .tc main_v162)) (W (Proc.devRef .tc main_v7))))
    (loss (W (Proc.devRef .tc main_arg0)) (W (Proc.devRef .tc main_v239)) (W (Proc.devRef .tc main_v7))))
    (loss (W (Proc.devRef .tc main_arg0)) (W (Proc.devRef .tc main_v316)) (W (Proc.devRef .tc main_v7)))

/-- The kernel's results, with each sum over the count written as the reference's loss. -/
theorem kern_meets (m : (ℓ : Loc nD τ sig) → Buf (Elt Ideal) ℓ) (c : Dev nD) (W : Valuation τ sig (Elt Ideal)) (h : V0 m c = W)
    (hm : W (Proc.devRef .tc main_v10) = mask3 (W (Proc.devRef .tc main_v7)))
    (hd : W (Proc.devRef .tc main_v12) = denom (W (Proc.devRef .tc main_v7))) :
    after hostOps1 (callMem m c W) (Proc.devRef .tc main_v336) = out W
    ∧ after hostOps1 (callMem m c W) (Proc.devRef .tc main_v334) = total W := by
  have r := kern_results m c W h _ _ _ _ _ (W (Proc.devRef .tc main_v7)) rfl rfl rfl rfl rfl hm hd
  refine ⟨r.1, r.2.trans ?_⟩
  unfold total
  rw [loss_eq, loss_eq, loss_eq, loss_eq]

/-- The reference's results, from a memory that agrees with the kernel's. -/
theorem ref_meets (W : Valuation τ sig (Elt Ideal)) (V' : RefVal) (h : Same pairs7 W (refMem V')) :
    after Ref.parts.1.flatten V' (Proc.devRef .tc ReferenceIdeal.main_v355) = out W
    ∧ after Ref.parts.1.flatten V' (Proc.devRef .tc ReferenceIdeal.main_v353) = total W := by
  have hx := eq_of_heq (h.at (p := (main_arg0, ReferenceIdeal.main_arg0)) (by decide))
  have hk := eq_of_heq (h.at (p := (main_v7, ReferenceIdeal.main_v7)) (by decide))
  have h0 := eq_of_heq (h.at (p := (main_v85, ReferenceIdeal.main_v82)) (by decide))
  have h1 := eq_of_heq (h.at (p := (main_v162, ReferenceIdeal.main_v169)) (by decide))
  have h2 := eq_of_heq (h.at (p := (main_v239, ReferenceIdeal.main_v256)) (by decide))
  have h3 := eq_of_heq (h.at (p := (main_v316, ReferenceIdeal.main_v343)) (by decide))
  exact ⟨ref_out V' _ _ hx h3, ref_loss V' _ _ _ _ _ _ hx h0 h1 h2 h3 hk⟩

/-- The kernel's run: its results, and its arguments as they were. -/
theorem kern_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v336) = out (kernMem (launchContents m c))
        ∧ r.2.mem ((c.tc : Thread nD τ).loc main_v334) = total (kernMem (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (θ_run_and (run_main m ρ) (unchanged m ρ)) fun r h c => ⟨?_, h.2 c⟩
  have hW := kern_after m c
  have e := kern_meets m c _ hW (kernMem_mask _) (kernMem_denom _)
  have t (b : Ref sig .tc) : Pipeline.afterTail₀ cfgs (dats m) 0 (V0 m) [hostOps1] c b
      = after hostOps1 (callMem m c (kernMem (launchContents m c))) (Proc.devRef .tc b) := by
    unfold Pipeline.afterTail₀
    rw [hW]
    simp only [List.flatten_cons, List.flatten_nil, List.append_nil]
  exact ⟨(((h.1 c).2 main_v336 (Pipeline.mem_restRefs_of main_v336 (by decide) (by decide))).trans (t _)).trans e.1,
    (((h.1 c).2 main_v334 (Pipeline.mem_restRefs_of main_v334 (by decide) (by decide))).trans (t _)).trans e.2⟩

/-- The reference computes what the kernel computes. -/
theorem algebraic : Cert.algebraic_KernelIdeal_ReferenceIdeal := by
  intro m ρ m' ρ' _ hagree
  refine ⟨fun c => out (kernMem (launchContents m c)), fun c => total (kernMem (launchContents m c)), ?_, ?_⟩
  · exact θ_run_mono (kern_run m ρ) fun r h c => ⟨(h c).1.1, (h c).1.2, (h c).2.1, (h c).2.2.1, (h c).2.2.2⟩
  · refine θ_run_mono (ref_run m' ρ') fun r h c => ?_
    have hs : Same pairsArgs (launchContents m c) (launchContents m' c) := by
      refine ⟨heq_of_eq (hagree c).1, heq_of_eq (hagree c).2.1, heq_of_eq (hagree c).2.2⟩
    have e := ref_meets _ _ (same_all _ _ hs)
    exact ⟨(h c _).trans e.1, (h c _).trans e.2, (h c _).trans (all_keep _ (by decide)), (h c _).trans (all_keep _ (by decide)),
      (h c _).trans (all_keep _ (by decide))⟩

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Meet
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  @ref_quiescent Cert.ReferenceIdeal.Gen.facts, trivial, @algebraic Cert.ReferenceIdeal.Gen.facts⟩

end Cert.Proof

end
